-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_grid [hPre_in_grid : Cert.Pre_in_grid.Facts] (m : (ℓ : Loc Cert.KernelIdeal.nD Cert.KernelIdeal.τ Cert.KernelIdeal.sig) → Buf (Elt Ideal) ℓ) : Prop :=
  ∀ c : Dev Cert.KernelIdeal.nD,
    (Cert.Pre_in_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_grid [hPre_in_grid : Cert.Pre_in_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_in_grid [hKernelIdeal : Cert.KernelIdeal.Facts] [hPre_in_grid : Cert.Pre_in_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_grid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_in_grid [hReferenceIdeal : Cert.ReferenceIdeal.Facts] [hPre_in_grid : Cert.Pre_in_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_in_grid [hKernelIdeal : Cert.KernelIdeal.Facts] [hReferenceIdeal : Cert.ReferenceIdeal.Facts] [hPre_in_grid : Cert.Pre_in_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_grid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_in_grid : Cert.Pre_in_grid.Facts),
    quiescent_Kernel (hKernel := hKernel)
    ∧ quiescent_KernelIdeal (hKernelIdeal := hKernelIdeal)
    ∧ quiescent_KernelIdeal_pre_in_grid (hKernelIdeal := hKernelIdeal) (hPre_in_grid := hPre_in_grid)
    ∧ quiescent_ReferenceIdeal (hReferenceIdeal := hReferenceIdeal)
    ∧ quiescent_ReferenceIdeal_pre_in_grid (hReferenceIdeal := hReferenceIdeal) (hPre_in_grid := hPre_in_grid)
    ∧ preserves_Kernel_KernelIdeal
    ∧ algebraic_KernelIdeal_ReferenceIdeal_pre_in_grid (hKernelIdeal := hKernelIdeal) (hReferenceIdeal := hReferenceIdeal) (hPre_in_grid := hPre_in_grid)
-- ==== Pre_in_grid.lean ====
abbrev S8192x128 : Shape := ⟨2, ![8192, 128]⟩
abbrev S8192 : Shape := ⟨1, ![8192]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S3x3x32x32 : Shape := ⟨4, ![3, 3, 32, 32]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192x128 .f32) (main_arg1 : IVec S8192 32) (main_arg2 : IVec S8192 32) (main_arg3 : IVec S8192 1) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) (main_arg12 : FVec F S64 .f32) (main_arg13 : FVec F S64 .f32) (main_arg14 : FVec F S64x32 .f32) (main_arg15 : FVec F S32 .f32) (main_arg16 : FVec F S32 .f32) (main_arg17 : FVec F S32 .f32) (main_arg18 : FVec F S3x3x32x32 .f32) (main_arg19 : FVec F S32 .f32) : IVec S_ 1 :=
  let main_c : IVec S_ 32 := constantI S_ 32 0#32
  let main_v0 : IVec S8192 32 := broadcastInDim S8192 ![] bcast_S_S8192 main_c
  let main_v1 : IVec S8192 1 := cmpi .sge main_arg1 main_v0
  let main_c_0 : IVec S_ 32 := constantI S_ 32 256#32
  let main_v2 : IVec S8192 32 := broadcastInDim S8192 ![] bcast_S_S8192 main_c_0
  let main_v3 : IVec S8192 1 := cmpi .slt main_arg1 main_v2
  let main_v4 : IVec S8192 1 := andi main_v1 main_v3
  let main_c_1 : IVec S_ 32 := constantI S_ 32 0#32
  let main_v5 : IVec S8192 32 := broadcastInDim S8192 ![] bcast_S_S8192 main_c_1
  let main_v6 : IVec S8192 1 := cmpi .sge main_arg2 main_v5
  let main_v7 : IVec S8192 1 := andi main_v4 main_v6
  let main_c_2 : IVec S_ 32 := constantI S_ 32 256#32
  let main_v8 : IVec S8192 32 := broadcastInDim S8192 ![] bcast_S_S8192 main_c_2
  let main_v9 : IVec S8192 1 := cmpi .slt main_arg2 main_v8
  let main_v10 : IVec S8192 1 := andi main_v7 main_v9
  let main_c_3 : IVec S_ 1 := constantI S_ 1 1#1
  let main_v11 : IVec S_ 1 := (fun x v => Host.reduce IntOp.andi x v reducesTo_S8192_S_d0 h_S_) main_v10 main_c_3
  main_v11
-- ==== Kernel.lean ====
abbrev S8192x128 : Shape := ⟨2, ![8192, 128]⟩
abbrev S8192 : Shape := ⟨1, ![8192]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S3x3x32x32 : Shape := ⟨4, ![3, 3, 32, 32]⟩
abbrev S68768x1 : Shape := ⟨2, ![68768, 1]⟩
abbrev S8192x1 : Shape := ⟨2, ![8192, 1]⟩
abbrev S1x128 : Shape := ⟨2, ![1, 128]⟩
abbrev S1x64 : Shape := ⟨2, ![1, 64]⟩
abbrev S1x32 : Shape := ⟨2, ![1, 32]⟩
abbrev S8192x32 : Shape := ⟨2, ![8192, 32]⟩
abbrev S512x128 : Shape := ⟨2, ![512, 128]⟩
abbrev S512x1 : Shape := ⟨2, ![512, 1]⟩
abbrev S512x32 : Shape := ⟨2, ![512, 32]⟩
abbrev S512 : Shape := ⟨1, ![512]⟩
abbrev S512x64 : Shape := ⟨2, ![512, 64]⟩
abbrev S_ : Shape := ⟨0, ![]⟩
abbrev S68768x32 : Shape := ⟨2, ![68768, 32]⟩
abbrev S3x32x3x32 : Shape := ⟨4, ![3, 32, 3, 32]⟩
abbrev S3x32x96 : Shape := ⟨3, ![3, 32, 96]⟩
abbrev S68224x32 : Shape := ⟨2, ![68224, 32]⟩
abbrev S4264x32 : Shape := ⟨2, ![4264, 32]⟩
abbrev S4808x32 : Shape := ⟨2, ![4808, 32]⟩
abbrev S4808x1 : Shape := ⟨2, ![4808, 1]⟩
abbrev S4808 : Shape := ⟨1, ![4808]⟩
abbrev S4792x32 : Shape := ⟨2, ![4792, 32]⟩
abbrev S1x32x96 : Shape := ⟨3, ![1, 32, 96]⟩
abbrev S32x96 : Shape := ⟨2, ![32, 96]⟩
abbrev S4792x96 : Shape := ⟨2, ![4792, 96]⟩
abbrev S68112x32 : Shape := ⟨2, ![68112, 32]⟩
abbrev S258x264x32 : Shape := ⟨3, ![258, 264, 32]⟩
abbrev S256x256x32 : Shape := ⟨3, ![256, 256, 32]⟩

abbrev nBuf : Space → Nat
  | .hbm => 60
  | .vmem => 26
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192, .i32⟩
  | .hbm, ⟨3, _⟩ => ⟨S8192, .i1⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64x32, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S3x3x32x32, .f32⟩
  | .hbm, ⟨19, _⟩ => ⟨S32, .f32⟩
  | .hbm, ⟨20, _⟩ => ⟨S68768x1, .f32⟩
  | .hbm, ⟨21, _⟩ => ⟨S8192, .f32⟩
  | .hbm, ⟨22, _⟩ => ⟨S8192x1, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S1x32, .f32⟩
  | .hbm, ⟨32, _⟩ => ⟨S8192x32, .f32⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S8192, .i32⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S_, .f32⟩
  | .hbm, ⟨41, _⟩ => ⟨S68768x32, .f32⟩
  | .hbm, ⟨42, _⟩ => ⟨S_, .i32⟩
  | .hbm, ⟨43, _⟩ => ⟨S8192, .i32⟩
  | .hbm, ⟨44, _⟩ => ⟨S8192, .i1⟩
  | .hbm, ⟨45, _⟩ => ⟨S_, .i32⟩
  | .hbm, ⟨46, _⟩ => ⟨S8192, .i32⟩
  | .hbm, ⟨47, _⟩ => ⟨S8192, .i32⟩
  | .hbm, ⟨48, _⟩ => ⟨S8192, .i32⟩
  | .hbm, ⟨49, _⟩ => ⟨S8192x1, .i32⟩
  | .hbm, ⟨50, _⟩ => ⟨S68768x32, .f32⟩
  | .hbm, ⟨51, _⟩ => ⟨S3x32x3x32, .f32⟩
  | .hbm, ⟨52, _⟩ => ⟨S3x32x96, .f32⟩
  | .hbm, ⟨53, _⟩ => ⟨S1x32, .f32⟩
  | .hbm, ⟨54, _⟩ => ⟨S1x32, .f32⟩
  | .hbm, ⟨55, _⟩ => ⟨S1x32, .f32⟩
  | .hbm, ⟨56, _⟩ => ⟨S68224x32, .f32⟩
  | .hbm, ⟨57, _⟩ => ⟨S68112x32, .f32⟩
  | .hbm, ⟨58, _⟩ => ⟨S258x264x32, .f32⟩
  | .hbm, ⟨59, _⟩ => ⟨S256x256x32, .f32⟩
  | .local _ .vmem, ⟨0, _⟩ => ⟨S512x128, .f32⟩
  | .local _ .vmem, ⟨1, _⟩ => ⟨S512x128, .f32⟩
  | .local _ .vmem, ⟨2, _⟩ => ⟨S512x1, .f32⟩
  | .local _ .vmem, ⟨3, _⟩ => ⟨S512x1, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S64x32, .f32⟩
  | .local _ .vmem, ⟨15, _⟩ => ⟨S1x32, .f32⟩
  | .local _ .vmem, ⟨16, _⟩ => ⟨S512x32, .f32⟩
  | .local _ .vmem, ⟨17, _⟩ => ⟨S512x32, .f32⟩
  | .local _ .vmem, ⟨18, _⟩ => ⟨S1x32, .f32⟩
  | .local _ .vmem, ⟨19, _⟩ => ⟨S1x32, .f32⟩
  | .local _ .vmem, ⟨20, _⟩ => ⟨S3x32x96, .f32⟩
  | .local _ .vmem, ⟨21, _⟩ => ⟨S1x32, .f32⟩
  | .local _ .vmem, ⟨22, _⟩ => ⟨S4264x32, .f32⟩
  | .local _ .vmem, ⟨23, _⟩ => ⟨S4264x32, .f32⟩
  | .local _ .vmem, ⟨24, _⟩ => ⟨S4808x32, .f32⟩
  | .local _ .vmem, ⟨25, _⟩ => ⟨S4808x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_0 : Ref sig .tc := ⟨.hbm, 37, rfl⟩
abbrev main_v15 : Ref sig .tc := ⟨.hbm, 38, rfl⟩
abbrev main_v16 : Ref sig .tc := ⟨.hbm, 39, rfl⟩
abbrev main_cst_1 : Ref sig .tc := ⟨.hbm, 40, rfl⟩
abbrev main_v17 : Ref sig .tc := ⟨.hbm, 41, rfl⟩
abbrev main_c_2 : Ref sig .tc := ⟨.hbm, 42, rfl⟩
abbrev main_v18 : Ref sig .tc := ⟨.hbm, 43, rfl⟩
abbrev main_v19 : Ref sig .tc := ⟨.hbm, 44, rfl⟩
abbrev main_c_3 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc1_stg0_0 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc1_scratch0 : Ref sig .tc := ⟨.vmem, 24, rfl⟩
abbrev cc1_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc1_sem0_0 : DmaSem sig := 18
abbrev cc1_sem1_0 : DmaSem sig := 19
abbrev cc1_sem2_0 : DmaSem sig := 20
abbrev cc1_sem3_0 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![16], ![false]⟩

def k1_off1 (i : grid1.Coords) : Fin 2 → Nat :=
  let arg0 : BitVec 32 := BitVec.ofNat 32 (i 0).val
  let c4264_i32 : BitVec 32 := 4264#32
  let v0 : BitVec 32 := Scalar.muli arg0 c4264_i32
  let c0_i32 : BitVec 32 := 0#32
  ![v0.toNat, 0]
def k1_off2 (i : grid1.Coords) : Fin 2 → Nat :=
  let arg0 : BitVec 32 := BitVec.ofNat 32 (i 0).val
  let c4264_i32_0 : BitVec 32 := 4264#32
  let v1 : BitVec 32 := Scalar.muli arg0 c4264_i32_0
  let c0_i32_1 : BitVec 32 := 0#32
  ![v1.toNat, 0]
def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x32 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3x32x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4264x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S8192x128 : Shape := ⟨2, ![8192, 128]⟩
abbrev S8192 : Shape := ⟨1, ![8192]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S3x3x32x32 : Shape := ⟨4, ![3, 3, 32, 32]⟩
abbrev S8192x1 : Shape := ⟨2, ![8192, 1]⟩
abbrev S_ : Shape := ⟨0, ![]⟩
abbrev S1x128 : Shape := ⟨2, ![1, 128]⟩
abbrev S8192x64 : Shape := ⟨2, ![8192, 64]⟩
abbrev S1x64 : Shape := ⟨2, ![1, 64]⟩
abbrev S8192x32 : Shape := ⟨2, ![8192, 32]⟩
abbrev S1x32 : Shape := ⟨2, ![1, 32]⟩
abbrev S1x256 : Shape := ⟨2, ![1, 256]⟩
abbrev S8192x256 : Shape := ⟨2, ![8192, 256]⟩
abbrev S8192x256x1 : Shape := ⟨3, ![8192, 256, 1]⟩
abbrev S8192x1x32 : Shape := ⟨3, ![8192, 1, 32]⟩
abbrev S8192x256x32 : Shape := ⟨3, ![8192, 256, 32]⟩
abbrev S256x32x256 : Shape := ⟨3, ![256, 32, 256]⟩
abbrev S256x256x32 : Shape := ⟨3, ![256, 256, 32]⟩
abbrev S256x256 : Shape := ⟨2, ![256, 256]⟩
abbrev S256x256x1 : Shape := ⟨3, ![256, 256, 1]⟩
abbrev S1x1x32 : Shape := ⟨3, ![1, 1, 32]⟩
abbrev S258x258x32 : Shape := ⟨3, ![258, 258, 32]⟩
abbrev S1x1x32x32 : Shape := ⟨4, ![1, 1, 32, 32]⟩
abbrev S32x32 : Shape := ⟨2, ![32, 32]⟩

abbrev nBuf : Space → Nat
  | .hbm => 298
  | .vmem => 0
  | .smem => 0
  | _ => 0

abbrev hbmTy0_0 (i : Nat) : BufTy := match i % 128 with
  | 0 => ⟨S8192x128, .f32⟩
  | 1 => ⟨S8192, .i32⟩
  | 2 => ⟨S8192, .i32⟩
  | 3 => ⟨S8192, .i1⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x64, .f32⟩
  | 11 => ⟨S64, .f32⟩
  | 12 => ⟨S64, .f32⟩
  | 13 => ⟨S64, .f32⟩
  | 14 => ⟨S64x32, .f32⟩
  | 15 => ⟨S32, .f32⟩
  | 16 => ⟨S32, .f32⟩
  | 17 => ⟨S32, .f32⟩
  | 18 => ⟨S3x3x32x32, .f32⟩
  | 19 => ⟨S32, .f32⟩
  | 20 => ⟨S8192x1, .i1⟩
  | 21 => ⟨S_, .f32⟩
  | 22 => ⟨S8192, .f32⟩
  | 23 => ⟨S8192x1, .f32⟩
  | 24 => ⟨S_, .f32⟩
  | 25 => ⟨S8192x1, .f32⟩
  | 26 => ⟨S8192x1, .f32⟩
  | 27 => ⟨S_, .i32⟩
  | 28 => ⟨S_, .f32⟩
  | 29 => ⟨S8192, .f32⟩
  | 30 => ⟨S8192x1, .f32⟩
  | 31 => ⟨S_, .f32⟩
  | 32 => ⟨S8192x1, .f32⟩
  | 33 => ⟨S8192x1, .f32⟩
  | 34 => ⟨S8192x128, .f32⟩
  | 35 => ⟨S8192x128, .f32⟩
  | 36 => ⟨S8192x128, .f32⟩
  | 37 => ⟨S_, .f32⟩
  | 38 => ⟨S_, .f32⟩
  | 39 => ⟨S_, .f32⟩
  | 40 => ⟨S_, .f32⟩
  | 41 => ⟨S8192, .f32⟩
  | 42 => ⟨S8192x1, .f32⟩
  | 43 => ⟨S8192x1, .f32⟩
  | 44 => ⟨S8192x1, .f32⟩
  | 45 => ⟨S_, .f32⟩
  | 46 => ⟨S_, .i1⟩
  | 47 => ⟨S_, .f32⟩
  | 48 => ⟨S_, .f32⟩
  | 49 => ⟨S8192x1, .f32⟩
  | 50 => ⟨S8192x1, .f32⟩
  | 51 => ⟨S8192x128, .f32⟩
  | 52 => ⟨S8192x128, .f32⟩
  | 53 => ⟨S_, .f32⟩
  | 54 => ⟨S8192x1, .f32⟩
  | 55 => ⟨S8192x1, .f32⟩
  | 56 => ⟨S8192x1, .f32⟩
  | 57 => ⟨S8192x128, .f32⟩
  | 58 => ⟨S8192x128, .f32⟩
  | 59 => ⟨S1x128, .f32⟩
  | 60 => ⟨S8192x128, .f32⟩
  | 61 => ⟨S8192x128, .f32⟩
  | 62 => ⟨S1x128, .f32⟩
  | 63 => ⟨S8192x128, .f32⟩
  | 64 => ⟨S8192x128, .f32⟩
  | 65 => ⟨S_, .f32⟩
  | 66 => ⟨S8192x128, .f32⟩
  | 67 => ⟨S8192x128, .f32⟩
  | 68 => ⟨S8192x128, .f32⟩
  | 69 => ⟨S1x128, .f32⟩
  | 70 => ⟨S8192x128, .f32⟩
  | 71 => ⟨S8192x128, .f32⟩
  | 72 => ⟨S_, .f32⟩
  | 73 => ⟨S8192, .f32⟩
  | 74 => ⟨S8192x1, .f32⟩
  | 75 => ⟨S_, .f32⟩
  | 76 => ⟨S8192x1, .f32⟩
  | 77 => ⟨S8192x1, .f32⟩
  | 78 => ⟨S_, .i32⟩
  | 79 => ⟨S_, .f32⟩
  | 80 => ⟨S8192, .f32⟩
  | 81 => ⟨S8192x1, .f32⟩
  | 82 => ⟨S_, .f32⟩
  | 83 => ⟨S8192x1, .f32⟩
  | 84 => ⟨S8192x1, .f32⟩
  | 85 => ⟨S8192x128, .f32⟩
  | 86 => ⟨S8192x128, .f32⟩
  | 87 => ⟨S8192x128, .f32⟩
  | 88 => ⟨S_, .f32⟩
  | 89 => ⟨S_, .f32⟩
  | 90 => ⟨S_, .f32⟩
  | 91 => ⟨S_, .f32⟩
  | 92 => ⟨S8192, .f32⟩
  | 93 => ⟨S8192x1, .f32⟩
  | 94 => ⟨S8192x1, .f32⟩
  | 95 => ⟨S8192x1, .f32⟩
  | 96 => ⟨S_, .f32⟩
  | 97 => ⟨S_, .i1⟩
  | 98 => ⟨S_, .f32⟩
  | 99 => ⟨S_, .f32⟩
  | 100 => ⟨S8192x1, .f32⟩
  | 101 => ⟨S8192x1, .f32⟩
  | 102 => ⟨S8192x128, .f32⟩
  | 103 => ⟨S8192x128, .f32⟩
  | 104 => ⟨S_, .f32⟩
  | 105 => ⟨S8192x1, .f32⟩
  | 106 => ⟨S8192x1, .f32⟩
  | 107 => ⟨S8192x1, .f32⟩
  | 108 => ⟨S8192x128, .f32⟩
  | 109 => ⟨S8192x128, .f32⟩
  | 110 => ⟨S1x128, .f32⟩
  | 111 => ⟨S8192x128, .f32⟩
  | 112 => ⟨S8192x128, .f32⟩
  | 113 => ⟨S1x128, .f32⟩
  | 114 => ⟨S8192x128, .f32⟩
  | 115 => ⟨S8192x128, .f32⟩
  | 116 => ⟨S_, .f32⟩
  | 117 => ⟨S8192x128, .f32⟩
  | 118 => ⟨S8192x128, .f32⟩
  | 119 => ⟨S8192x64, .f32⟩
  | 120 => ⟨S1x64, .f32⟩
  | 121 => ⟨S8192x64, .f32⟩
  | 122 => ⟨S8192x64, .f32⟩
  | 123 => ⟨S_, .f32⟩
  | 124 => ⟨S8192, .f32⟩
  | 125 => ⟨S8192x1, .f32⟩
  | 126 => ⟨S_, .f32⟩
  | 127 => ⟨S8192x1, .f32⟩
  | _ => ⟨S8192x128, .f32⟩

abbrev hbmTy0_1 (i : Nat) : BufTy := match i % 128 with
  | 0 => ⟨S8192x1, .f32⟩
  | 1 => ⟨S_, .i32⟩
  | 2 => ⟨S_, .f32⟩
  | 3 => ⟨S8192, .f32⟩
  | 4 => ⟨S8192x1, .f32⟩
  | 5 => ⟨S_, .f32⟩
  | 6 => ⟨S8192x1, .f32⟩
  | 7 => ⟨S8192x1, .f32⟩
  | 8 => ⟨S8192x64, .f32⟩
  | 9 => ⟨S8192x64, .f32⟩
  | 10 => ⟨S8192x64, .f32⟩
  | 11 => ⟨S_, .f32⟩
  | 12 => ⟨S_, .f32⟩
  | 13 => ⟨S_, .f32⟩
  | 14 => ⟨S_, .f32⟩
  | 15 => ⟨S8192, .f32⟩
  | 16 => ⟨S8192x1, .f32⟩
  | 17 => ⟨S8192x1, .f32⟩
  | 18 => ⟨S8192x1, .f32⟩
  | 19 => ⟨S_, .f32⟩
  | 20 => ⟨S_, .i1⟩
  | 21 => ⟨S_, .f32⟩
  | 22 => ⟨S_, .f32⟩
  | 23 => ⟨S8192x1, .f32⟩
  | 24 => ⟨S8192x1, .f32⟩
  | 25 => ⟨S8192x64, .f32⟩
  | 26 => ⟨S8192x64, .f32⟩
  | 27 => ⟨S_, .f32⟩
  | 28 => ⟨S8192x1, .f32⟩
  | 29 => ⟨S8192x1, .f32⟩
  | 30 => ⟨S8192x1, .f32⟩
  | 31 => ⟨S8192x64, .f32⟩
  | 32 => ⟨S8192x64, .f32⟩
  | 33 => ⟨S1x64, .f32⟩
  | 34 => ⟨S8192x64, .f32⟩
  | 35 => ⟨S8192x64, .f32⟩
  | 36 => ⟨S1x64, .f32⟩
  | 37 => ⟨S8192x64, .f32⟩
  | 38 => ⟨S8192x64, .f32⟩
  | 39 => ⟨S_, .f32⟩
  | 40 => ⟨S8192x64, .f32⟩
  | 41 => ⟨S8192x64, .f32⟩
  | 42 => ⟨S8192x32, .f32⟩
  | 43 => ⟨S1x32, .f32⟩
  | 44 => ⟨S8192x32, .f32⟩
  | 45 => ⟨S8192x32, .f32⟩
  | 46 => ⟨S_, .i32⟩
  | 47 => ⟨S_, .f32⟩
  | 48 => ⟨S8192x32, .i1⟩
  | 49 => ⟨S8192x32, .f32⟩
  | 50 => ⟨S8192x32, .f32⟩
  | 51 => ⟨S8192x1, .i32⟩
  | 52 => ⟨S1x256, .i32⟩
  | 53 => ⟨S8192x256, .i32⟩
  | 54 => ⟨S8192x256, .i32⟩
  | 55 => ⟨S8192x256, .i1⟩
  | 56 => ⟨S8192x256, .f32⟩
  | 57 => ⟨S8192x1, .i32⟩
  | 58 => ⟨S1x256, .i32⟩
  | 59 => ⟨S8192x256, .i32⟩
  | 60 => ⟨S8192x256, .i32⟩
  | 61 => ⟨S8192x256, .i1⟩
  | 62 => ⟨S8192x256, .f32⟩
  | 63 => ⟨S8192x256x1, .f32⟩
  | 64 => ⟨S8192x1x32, .f32⟩
  | 65 => ⟨S8192x256x32, .f32⟩
  | 66 => ⟨S8192x256x32, .f32⟩
  | 67 => ⟨S8192x256x32, .f32⟩
  | 68 => ⟨S256x32x256, .f32⟩
  | 69 => ⟨S256x256x32, .f32⟩
  | 70 => ⟨S_, .f32⟩
  | 71 => ⟨S256x256, .f32⟩
  | 72 => ⟨S256x256x1, .f32⟩
  | 73 => ⟨S_, .f32⟩
  | 74 => ⟨S256x256x1, .f32⟩
  | 75 => ⟨S256x256x1, .f32⟩
  | 76 => ⟨S_, .i32⟩
  | 77 => ⟨S_, .f32⟩
  | 78 => ⟨S256x256, .f32⟩
  | 79 => ⟨S256x256x1, .f32⟩
  | 80 => ⟨S_, .f32⟩
  | 81 => ⟨S256x256x1, .f32⟩
  | 82 => ⟨S256x256x1, .f32⟩
  | 83 => ⟨S256x256x32, .f32⟩
  | 84 => ⟨S256x256x32, .f32⟩
  | 85 => ⟨S256x256x32, .f32⟩
  | 86 => ⟨S_, .f32⟩
  | 87 => ⟨S_, .f32⟩
  | 88 => ⟨S_, .f32⟩
  | 89 => ⟨S_, .f32⟩
  | 90 => ⟨S256x256, .f32⟩
  | 91 => ⟨S256x256x1, .f32⟩
  | 92 => ⟨S256x256x1, .f32⟩
  | 93 => ⟨S256x256x1, .f32⟩
  | 94 => ⟨S_, .f32⟩
  | 95 => ⟨S_, .i1⟩
  | 96 => ⟨S_, .f32⟩
  | 97 => ⟨S_, .f32⟩
  | 98 => ⟨S256x256x1, .f32⟩
  | 99 => ⟨S256x256x1, .f32⟩
  | 100 => ⟨S256x256x32, .f32⟩
  | 101 => ⟨S256x256x32, .f32⟩
  | 102 => ⟨S_, .f32⟩
  | 103 => ⟨S256x256x1, .f32⟩
  | 104 => ⟨S256x256x1, .f32⟩
  | 105 => ⟨S256x256x1, .f32⟩
  | 106 => ⟨S256x256x32, .f32⟩
  | 107 => ⟨S256x256x32, .f32⟩
  | 108 => ⟨S1x1x32, .f32⟩
  | 109 => ⟨S256x256x32, .f32⟩
  | 110 => ⟨S256x256x32, .f32⟩
  | 111 => ⟨S1x1x32, .f32⟩
  | 112 => ⟨S256x256x32, .f32⟩
  | 113 => ⟨S256x256x32, .f32⟩
  | 114 => ⟨S_, .f32⟩
  | 115 => ⟨S256x256x32, .f32⟩
  | 116 => ⟨S256x256x32, .f32⟩
  | 117 => ⟨S_, .i32⟩
  | 118 => ⟨S_, .f32⟩
  | 119 => ⟨S258x258x32, .f32⟩
  | 120 => ⟨S256x256x32, .f32⟩
  | 121 => ⟨S1x1x32x32, .f32⟩
  | 122 => ⟨S32x32, .f32⟩
  | 123 => ⟨S256x256x32, .f32⟩
  | 124 => ⟨S_, .f32⟩
  | 125 => ⟨S256x256x32, .f32⟩
  | 126 => ⟨S256x256x32, .f32⟩
  | 127 => ⟨S256x256x32, .f32⟩
  | _ => ⟨S8192x128, .f32⟩

abbrev hbmTy0_2 (i : Nat) : BufTy := match i % 128 with
  | 0 => ⟨S1x1x32x32, .f32⟩
  | 1 => ⟨S32x32, .f32⟩
  | 2 => ⟨S256x256x32, .f32⟩
  | 3 => ⟨S256x256x32, .f32⟩
  | 4 => ⟨S256x256x32, .f32⟩
  | 5 => ⟨S1x1x32x32, .f32⟩
  | 6 => ⟨S32x32, .f32⟩
  | 7 => ⟨S256x256x32, .f32⟩
  | 8 => ⟨S256x256x32, .f32⟩
  | 9 => ⟨S256x256x32, .f32⟩
  | 10 => ⟨S1x1x32x32, .f32⟩
  | 11 => ⟨S32x32, .f32⟩
  | 12 => ⟨S256x256x32, .f32⟩
  | 13 => ⟨S256x256x32, .f32⟩
  | 14 => ⟨S256x256x32, .f32⟩
  | 15 => ⟨S1x1x32x32, .f32⟩
  | 16 => ⟨S32x32, .f32⟩
  | 17 => ⟨S256x256x32, .f32⟩
  | 18 => ⟨S256x256x32, .f32⟩
  | 19 => ⟨S256x256x32, .f32⟩
  | 20 => ⟨S1x1x32x32, .f32⟩
  | 21 => ⟨S32x32, .f32⟩
  | 22 => ⟨S256x256x32, .f32⟩
  | 23 => ⟨S256x256x32, .f32⟩
  | 24 => ⟨S256x256x32, .f32⟩
  | 25 => ⟨S1x1x32x32, .f32⟩
  | 26 => ⟨S32x32, .f32⟩
  | 27 => ⟨S256x256x32, .f32⟩
  | 28 => ⟨S256x256x32, .f32⟩
  | 29 => ⟨S256x256x32, .f32⟩
  | 30 => ⟨S1x1x32x32, .f32⟩
  | 31 => ⟨S32x32, .f32⟩
  | 32 => ⟨S256x256x32, .f32⟩
  | 33 => ⟨S256x256x32, .f32⟩
  | 34 => ⟨S256x256x32, .f32⟩
  | 35 => ⟨S1x1x32x32, .f32⟩
  | 36 => ⟨S32x32, .f32⟩
  | 37 => ⟨S256x256x32, .f32⟩
  | 38 => ⟨S256x256x32, .f32⟩
  | 39 => ⟨S1x1x32, .f32⟩
  | 40 => ⟨S256x256x32, .f32⟩
  | 41 => ⟨S256x256x32, .f32⟩
  | _ => ⟨S8192x128, .f32⟩

abbrev hbmTy (i : Nat) : BufTy := match i / 128 with
  | 0 => hbmTy0_0 i
  | 1 => hbmTy0_1 i
  | 2 => hbmTy0_2 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_cst : Ref sig .tc := ⟨.hbm, 21, rfl⟩
abbrev main_v1 : Ref sig .tc := ⟨.hbm, 22, rfl⟩
abbrev main_v2 : Ref sig .tc := ⟨.hbm, 23, rfl⟩
abbrev main_cst_0 : Ref sig .tc := ⟨.hbm, 24, rfl⟩
abbrev main_v3 : Ref sig .tc := ⟨.hbm, 25, rfl⟩
abbrev main_v4 : Ref sig .tc := ⟨.hbm, 26, rfl⟩
abbrev main_c : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_cst_1 : Ref sig .tc := ⟨.hbm, 38, rfl⟩
abbrev main_call0_v8 : Ref sig .tc := ⟨.hbm, 39, rfl⟩
abbrev main_call0_cst_2 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_cst_3 : Ref sig .tc := ⟨.hbm, 45, rfl⟩
abbrev main_call0_v13 : Ref sig .tc := ⟨.hbm, 46, rfl⟩
abbrev main_call0_cst_4 : Ref sig .tc := ⟨.hbm, 47, rfl⟩
abbrev main_call0_call0_v0 : Ref sig .tc := ⟨.hbm, 48, rfl⟩
abbrev main_call0_call0_v1 : Ref sig .tc := ⟨.hbm, 49, rfl⟩
abbrev main_v5 : Ref sig .tc := ⟨.hbm, 50, rfl⟩
abbrev main_v6 : Ref sig .tc := ⟨.hbm, 51, rfl⟩
abbrev main_v7 : Ref sig .tc := ⟨.hbm, 52, rfl⟩
abbrev main_cst_1 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_call1_cst : Ref sig .tc := ⟨.hbm, 65, rfl⟩
abbrev main_call1_v0 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_cst_2 : Ref sig .tc := ⟨.hbm, 72, rfl⟩
abbrev main_v24 : Ref sig .tc := ⟨.hbm, 73, rfl⟩
abbrev main_v25 : Ref sig .tc := ⟨.hbm, 74, rfl⟩
abbrev main_cst_3 : Ref sig .tc := ⟨.hbm, 75, rfl⟩
abbrev main_v26 : Ref sig .tc := ⟨.hbm, 76, rfl⟩
abbrev main_v27 : Ref sig .tc := ⟨.hbm, 77, rfl⟩
abbrev main_c_4 : Ref sig .tc := ⟨.hbm, 78, rfl⟩
abbrev main_call2_cst : Ref sig .tc := ⟨.hbm, 79, rfl⟩
abbrev main_call2_v0 : Ref sig .tc := ⟨.hbm, 80, rfl⟩
abbrev main_call2_v1 : Ref sig .tc := ⟨.hbm, 81, rfl⟩
abbrev main_call2_cst_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_v6 : Ref sig .tc := ⟨.hbm, 87, rfl⟩
abbrev main_call2_v7 : Ref sig .tc := ⟨.hbm, 88, rfl⟩
abbrev main_call2_cst_1 : Ref sig .tc := ⟨.hbm, 89, rfl⟩
abbrev main_call2_v8 : Ref sig .tc := ⟨.hbm, 90, rfl⟩
abbrev main_call2_cst_2 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_v12 : Ref sig .tc := ⟨.hbm, 95, rfl⟩
abbrev main_call2_cst_3 : Ref sig .tc := ⟨.hbm, 96, rfl⟩
abbrev main_call2_v13 : Ref sig .tc := ⟨.hbm, 97, rfl⟩
abbrev main_call2_cst_4 : Ref sig .tc := ⟨.hbm, 98, rfl⟩
abbrev main_call2_call0_v0 : Ref sig .tc := ⟨.hbm, 99, rfl⟩
abbrev main_call2_call0_v1 : Ref sig .tc := ⟨.hbm, 100, rfl⟩
abbrev main_v28 : Ref sig .tc := ⟨.hbm, 101, rfl⟩
abbrev main_v29 : Ref sig .tc := ⟨.hbm, 102, rfl⟩
abbrev main_v30 : Ref sig .tc := ⟨.hbm, 103, rfl⟩
abbrev main_cst_5 : Ref sig .tc := ⟨.hbm, 104, rfl⟩
abbrev main_v31 : Ref sig .tc := ⟨.hbm, 105, rfl⟩
abbrev main_v32 : Ref sig .tc := ⟨.hbm, 106, rfl⟩
abbrev main_v33 : Ref sig .tc := ⟨.hbm, 107, rfl⟩
abbrev main_v34 : Ref sig .tc := ⟨.hbm, 108, rfl⟩
abbrev main_v35 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_call3_cst : Ref sig .tc := ⟨.hbm, 116, rfl⟩
abbrev main_call3_v0 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_cst_6 : Ref sig .tc := ⟨.hbm, 123, rfl⟩
abbrev main_v47 : Ref sig .tc := ⟨.hbm, 124, rfl⟩
abbrev main_v48 : Ref sig .tc := ⟨.hbm, 125, rfl⟩
abbrev main_cst_7 : Ref sig .tc := ⟨.hbm, 126, rfl⟩
abbrev main_v49 : Ref sig .tc := ⟨.hbm, 127, rfl⟩
abbrev main_v50 : Ref sig .tc := ⟨.hbm, 128, rfl⟩
abbrev main_c_8 : Ref sig .tc := ⟨.hbm, 129, rfl⟩
abbrev main_call4_cst : Ref sig .tc := ⟨.hbm, 130, rfl⟩
abbrev main_call4_v0 : Ref sig .tc := ⟨.hbm, 131, rfl⟩
abbrev main_call4_v1 : Ref sig .tc := ⟨.hbm, 132, rfl⟩
abbrev main_call4_cst_0 : Ref sig .tc := ⟨.hbm, 133, rfl⟩
abbrev main_call4_v2 : Ref sig .tc := ⟨.hbm, 134, rfl⟩
abbrev main_call4_v3 : Ref sig .tc := ⟨.hbm, 135, rfl⟩
abbrev main_call4_v4 : Ref sig .tc := ⟨.hbm, 136, rfl⟩
abbrev main_call4_v5 : Ref sig .tc := ⟨.hbm, 137, rfl⟩
abbrev main_call4_v6 : Ref sig .tc := ⟨.hbm, 138, rfl⟩
abbrev main_call4_v7 : Ref sig .tc := ⟨.hbm, 139, rfl⟩
abbrev main_call4_cst_1 : Ref sig .tc := ⟨.hbm, 140, rfl⟩
abbrev main_call4_v8 : Ref sig .tc := ⟨.hbm, 141, rfl⟩
abbrev main_call4_cst_2 : Ref sig .tc := ⟨.hbm, 142, rfl⟩
abbrev main_call4_v9 : Ref sig .tc := ⟨.hbm, 143, rfl⟩
abbrev main_call4_v10 : Ref sig .tc := ⟨.hbm, 144, rfl⟩
abbrev main_call4_v11 : Ref sig .tc := ⟨.hbm, 145, rfl⟩
abbrev main_call4_v12 : Ref sig .tc := ⟨.hbm, 146, rfl⟩
abbrev main_call4_cst_3 : Ref sig .tc := ⟨.hbm, 147, rfl⟩
abbrev main_call4_v13 : Ref sig .tc := ⟨.hbm, 148, rfl⟩
abbrev main_call4_cst_4 : Ref sig .tc := ⟨.hbm, 149, rfl⟩
abbrev main_call4_call0_v0 : Ref sig .tc := ⟨.hbm, 150, rfl⟩
abbrev main_call4_call0_v1 : Ref sig .tc := ⟨.hbm, 151, rfl⟩
abbrev main_v51 : Ref sig .tc := ⟨.hbm, 152, rfl⟩
abbrev main_v52 : Ref sig .tc := ⟨.hbm, 153, rfl⟩
abbrev main_v53 : Ref sig .tc := ⟨.hbm, 154, rfl⟩
abbrev main_cst_9 : Ref sig .tc := ⟨.hbm, 155, rfl⟩
abbrev main_v54 : Ref sig .tc := ⟨.hbm, 156, rfl⟩
abbrev main_v55 : Ref sig .tc := ⟨.hbm, 157, rfl⟩
abbrev main_v56 : Ref sig .tc := ⟨.hbm, 158, rfl⟩
abbrev main_v57 : Ref sig .tc := ⟨.hbm, 159, rfl⟩
abbrev main_v58 : Ref sig .tc := ⟨.hbm, 160, rfl⟩
abbrev main_v59 : Ref sig .tc := ⟨.hbm, 161, rfl⟩
abbrev main_v60 : Ref sig .tc := ⟨.hbm, 162, rfl⟩
abbrev main_v61 : Ref sig .tc := ⟨.hbm, 163, rfl⟩
abbrev main_v62 : Ref sig .tc := ⟨.hbm, 164, rfl⟩
abbrev main_v63 : Ref sig .tc := ⟨.hbm, 165, rfl⟩
abbrev main_v64 : Ref sig .tc := ⟨.hbm, 166, rfl⟩
abbrev main_call5_cst : Ref sig .tc := ⟨.hbm, 167, rfl⟩
abbrev main_call5_v0 : Ref sig .tc := ⟨.hbm, 168, rfl⟩
abbrev main_v65 : Ref sig .tc := ⟨.hbm, 169, rfl⟩
abbrev main_v66 : Ref sig .tc := ⟨.hbm, 170, rfl⟩
abbrev main_v67 : Ref sig .tc := ⟨.hbm, 171, rfl⟩
abbrev main_v68 : Ref sig .tc := ⟨.hbm, 172, rfl⟩
abbrev main_v69 : Ref sig .tc := ⟨.hbm, 173, rfl⟩
abbrev main_c_10 : Ref sig .tc := ⟨.hbm, 174, rfl⟩
abbrev main_call6_v0 : Ref sig .tc := ⟨.hbm, 175, rfl⟩
abbrev main_call6_v1 : Ref sig .tc := ⟨.hbm, 176, rfl⟩
abbrev main_call6_v2 : Ref sig .tc := ⟨.hbm, 177, rfl⟩
abbrev main_v70 : Ref sig .tc := ⟨.hbm, 178, rfl⟩
abbrev main_call7_v0 : Ref sig .tc := ⟨.hbm, 179, rfl⟩
abbrev main_call7_v1 : Ref sig .tc := ⟨.hbm, 180, rfl⟩
abbrev main_call7_v2 : Ref sig .tc := ⟨.hbm, 181, rfl⟩
abbrev main_call7_v3 : Ref sig .tc := ⟨.hbm, 182, rfl⟩
abbrev main_call7_v4 : Ref sig .tc := ⟨.hbm, 183, rfl⟩
abbrev main_v71 : Ref sig .tc := ⟨.hbm, 184, rfl⟩
abbrev main_call8_v0 : Ref sig .tc := ⟨.hbm, 185, rfl⟩
abbrev main_call8_v1 : Ref sig .tc := ⟨.hbm, 186, rfl⟩
abbrev main_call8_v2 : Ref sig .tc := ⟨.hbm, 187, rfl⟩
abbrev main_call8_v3 : Ref sig .tc := ⟨.hbm, 188, rfl⟩
abbrev main_call8_v4 : Ref sig .tc := ⟨.hbm, 189, rfl⟩
abbrev main_v72 : Ref sig .tc := ⟨.hbm, 190, rfl⟩
abbrev main_v73 : Ref sig .tc := ⟨.hbm, 191, rfl⟩
abbrev main_v74 : Ref sig .tc := ⟨.hbm, 192, rfl⟩
abbrev main_v75 : Ref sig .tc := ⟨.hbm, 193, rfl⟩
abbrev main_v76 : Ref sig .tc := ⟨.hbm, 194, rfl⟩
abbrev main_v77 : Ref sig .tc := ⟨.hbm, 195, rfl⟩
abbrev main_v78 : Ref sig .tc := ⟨.hbm, 196, rfl⟩
abbrev main_v79 : Ref sig .tc := ⟨.hbm, 197, rfl⟩
abbrev main_cst_11 : Ref sig .tc := ⟨.hbm, 198, rfl⟩
abbrev main_v80 : Ref sig .tc := ⟨.hbm, 199, rfl⟩
abbrev main_v81 : Ref sig .tc := ⟨.hbm, 200, rfl⟩
abbrev main_cst_12 : Ref sig .tc := ⟨.hbm, 201, rfl⟩
abbrev main_v82 : Ref sig .tc := ⟨.hbm, 202, rfl⟩
abbrev main_v83 : Ref sig .tc := ⟨.hbm, 203, rfl⟩
abbrev main_c_13 : Ref sig .tc := ⟨.hbm, 204, rfl⟩
abbrev main_call9_cst : Ref sig .tc := ⟨.hbm, 205, rfl⟩
abbrev main_call9_v0 : Ref sig .tc := ⟨.hbm, 206, rfl⟩
abbrev main_call9_v1 : Ref sig .tc := ⟨.hbm, 207, rfl⟩
abbrev main_call9_cst_0 : Ref sig .tc := ⟨.hbm, 208, rfl⟩
abbrev main_call9_v2 : Ref sig .tc := ⟨.hbm, 209, rfl⟩
abbrev main_call9_v3 : Ref sig .tc := ⟨.hbm, 210, rfl⟩
abbrev main_call9_v4 : Ref sig .tc := ⟨.hbm, 211, rfl⟩
abbrev main_call9_v5 : Ref sig .tc := ⟨.hbm, 212, rfl⟩
abbrev main_call9_v6 : Ref sig .tc := ⟨.hbm, 213, rfl⟩
abbrev main_call9_v7 : Ref sig .tc := ⟨.hbm, 214, rfl⟩
abbrev main_call9_cst_1 : Ref sig .tc := ⟨.hbm, 215, rfl⟩
abbrev main_call9_v8 : Ref sig .tc := ⟨.hbm, 216, rfl⟩
abbrev main_call9_cst_2 : Ref sig .tc := ⟨.hbm, 217, rfl⟩
abbrev main_call9_v9 : Ref sig .tc := ⟨.hbm, 218, rfl⟩
abbrev main_call9_v10 : Ref sig .tc := ⟨.hbm, 219, rfl⟩
abbrev main_call9_v11 : Ref sig .tc := ⟨.hbm, 220, rfl⟩
abbrev main_call9_v12 : Ref sig .tc := ⟨.hbm, 221, rfl⟩
abbrev main_call9_cst_3 : Ref sig .tc := ⟨.hbm, 222, rfl⟩
abbrev main_call9_v13 : Ref sig .tc := ⟨.hbm, 223, rfl⟩
abbrev main_call9_cst_4 : Ref sig .tc := ⟨.hbm, 224, rfl⟩
abbrev main_call9_call0_v0 : Ref sig .tc := ⟨.hbm, 225, rfl⟩
abbrev main_call9_call0_v1 : Ref sig .tc := ⟨.hbm, 226, rfl⟩
abbrev main_v84 : Ref sig .tc := ⟨.hbm, 227, rfl⟩
abbrev main_v85 : Ref sig .tc := ⟨.hbm, 228, rfl⟩
abbrev main_v86 : Ref sig .tc := ⟨.hbm, 229, rfl⟩
abbrev main_cst_14 : Ref sig .tc := ⟨.hbm, 230, rfl⟩
abbrev main_v87 : Ref sig .tc := ⟨.hbm, 231, rfl⟩
abbrev main_v88 : Ref sig .tc := ⟨.hbm, 232, rfl⟩
abbrev main_v89 : Ref sig .tc := ⟨.hbm, 233, rfl⟩
abbrev main_v90 : Ref sig .tc := ⟨.hbm, 234, rfl⟩
abbrev main_v91 : Ref sig .tc := ⟨.hbm, 235, rfl⟩
abbrev main_v92 : Ref sig .tc := ⟨.hbm, 236, rfl⟩
abbrev main_v93 : Ref sig .tc := ⟨.hbm, 237, rfl⟩
abbrev main_v94 : Ref sig .tc := ⟨.hbm, 238, rfl⟩
abbrev main_v95 : Ref sig .tc := ⟨.hbm, 239, rfl⟩
abbrev main_v96 : Ref sig .tc := ⟨.hbm, 240, rfl⟩
abbrev main_v97 : Ref sig .tc := ⟨.hbm, 241, rfl⟩
abbrev main_call10_cst : Ref sig .tc := ⟨.hbm, 242, rfl⟩
abbrev main_call10_v0 : Ref sig .tc := ⟨.hbm, 243, rfl⟩
abbrev main_v98 : Ref sig .tc := ⟨.hbm, 244, rfl⟩
abbrev main_c_15 : Ref sig .tc := ⟨.hbm, 245, rfl⟩
abbrev main_call11_v0 : Ref sig .tc := ⟨.hbm, 246, rfl⟩
abbrev main_v99 : Ref sig .tc := ⟨.hbm, 247, rfl⟩
abbrev main_v100 : Ref sig .tc := ⟨.hbm, 248, rfl⟩
abbrev main_v101 : Ref sig .tc := ⟨.hbm, 249, rfl⟩
abbrev main_v102 : Ref sig .tc := ⟨.hbm, 250, rfl⟩
abbrev main_v103 : Ref sig .tc := ⟨.hbm, 251, rfl⟩
abbrev main_cst_16 : Ref sig .tc := ⟨.hbm, 252, rfl⟩
abbrev main_v104 : Ref sig .tc := ⟨.hbm, 253, rfl⟩
abbrev main_v105 : Ref sig .tc := ⟨.hbm, 254, rfl⟩
abbrev main_v106 : Ref sig .tc := ⟨.hbm, 255, rfl⟩
abbrev main_v107 : Ref sig .tc := ⟨.hbm, 256, rfl⟩
abbrev main_v108 : Ref sig .tc := ⟨.hbm, 257, rfl⟩
abbrev main_v109 : Ref sig .tc := ⟨.hbm, 258, rfl⟩
abbrev main_v110 : Ref sig .tc := ⟨.hbm, 259, rfl⟩
abbrev main_v111 : Ref sig .tc := ⟨.hbm, 260, rfl⟩
abbrev main_v112 : Ref sig .tc := ⟨.hbm, 261, rfl⟩
abbrev main_v113 : Ref sig .tc := ⟨.hbm, 262, rfl⟩
abbrev main_v114 : Ref sig .tc := ⟨.hbm, 263, rfl⟩
abbrev main_v115 : Ref sig .tc := ⟨.hbm, 264, rfl⟩
abbrev main_v116 : Ref sig .tc := ⟨.hbm, 265, rfl⟩
abbrev main_v117 : Ref sig .tc := ⟨.hbm, 266, rfl⟩
abbrev main_v118 : Ref sig .tc := ⟨.hbm, 267, rfl⟩
abbrev main_v119 : Ref sig .tc := ⟨.hbm, 268, rfl⟩
abbrev main_v120 : Ref sig .tc := ⟨.hbm, 269, rfl⟩
abbrev main_v121 : Ref sig .tc := ⟨.hbm, 270, rfl⟩
abbrev main_v122 : Ref sig .tc := ⟨.hbm, 271, rfl⟩
abbrev main_v123 : Ref sig .tc := ⟨.hbm, 272, rfl⟩
abbrev main_v124 : Ref sig .tc := ⟨.hbm, 273, rfl⟩
abbrev main_v125 : Ref sig .tc := ⟨.hbm, 274, rfl⟩
abbrev main_v126 : Ref sig .tc := ⟨.hbm, 275, rfl⟩
abbrev main_v127 : Ref sig .tc := ⟨.hbm, 276, rfl⟩
abbrev main_v128 : Ref sig .tc := ⟨.hbm, 277, rfl⟩
abbrev main_v129 : Ref sig .tc := ⟨.hbm, 278, rfl⟩
abbrev main_v130 : Ref sig .tc := ⟨.hbm, 279, rfl⟩
abbrev main_v131 : Ref sig .tc := ⟨.hbm, 280, rfl⟩
abbrev main_v132 : Ref sig .tc := ⟨.hbm, 281, rfl⟩
abbrev main_v133 : Ref sig .tc := ⟨.hbm, 282, rfl⟩
abbrev main_v134 : Ref sig .tc := ⟨.hbm, 283, rfl⟩
abbrev main_v135 : Ref sig .tc := ⟨.hbm, 284, rfl⟩
abbrev main_v136 : Ref sig .tc := ⟨.hbm, 285, rfl⟩
abbrev main_v137 : Ref sig .tc := ⟨.hbm, 286, rfl⟩
abbrev main_v138 : Ref sig .tc := ⟨.hbm, 287, rfl⟩
abbrev main_v139 : Ref sig .tc := ⟨.hbm, 288, rfl⟩
abbrev main_v140 : Ref sig .tc := ⟨.hbm, 289, rfl⟩
abbrev main_v141 : Ref sig .tc := ⟨.hbm, 290, rfl⟩
abbrev main_v142 : Ref sig .tc := ⟨.hbm, 291, rfl⟩
abbrev main_v143 : Ref sig .tc := ⟨.hbm, 292, rfl⟩
abbrev main_v144 : Ref sig .tc := ⟨.hbm, 293, rfl⟩
abbrev main_v145 : Ref sig .tc := ⟨.hbm, 294, rfl⟩
abbrev main_v146 : Ref sig .tc := ⟨.hbm, 295, rfl⟩
abbrev main_v147 : Ref sig .tc := ⟨.hbm, 296, rfl⟩
abbrev main_v148 : Ref sig .tc := ⟨.hbm, 297, rfl⟩

abbrev nD : Nat := 1
abbrev τ : Topo := Topo.v7x

variable {F : FTy → Type} [FloatOps F]
-- ==== Proof.RefFrame.lean ====
/- The frame of the reference program: a line of host operations, none of which writes an argument, on a
   machine that declares no semaphore. -/
module

public import proofs.«01_k».proof.Proof.Gen.ReferenceIdeal.Run
public import Idealize.ShloMosaic.Lib.Quiescent

@[expose] public section

noncomputable section

namespace Cert.Proof

open Idealize.ShloMosaic Idealize.SL.Sem

/-- The reference declares no semaphore, so every counter of its machine is zero in every state. -/
theorem reference_counters {F : FTy → Type} (s : MemSt Cert.ReferenceIdeal.nD Cert.ReferenceIdeal.τ Cert.ReferenceIdeal.sig (Elt F)) :
    s.sem = fun _ => 0 :=
  sem_eq_zero_of_no_sems (by decide) s

end Cert.Proof

end
-- ==== Proof.Run.lean ====
/- The run of the kernel program with its final memory named: every buffer that outlives the two
   kernel calls ends at the contents the stretches of the program compose (`Gen.W5`). The generated frame says only that
   the arguments are unchanged; the value claim also has to read the result. -/
module

public import proofs.«01_k».proof.Proof.Gen.KernelIdeal.Frame

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
/-- Every execution of the kernel program ends, and then every unscoped buffer of a device holds what
    the last boundary `W5` says. -/
theorem kernel_run : θ_run defs (onTc (τ := τ) (main (F := F))) ⟨m, fun _ => 0, ρ⟩ (fun r =>
      ∀ c : Dev nD, ∀ b ∈ Pipeline.ucRefs τ sig, r.2.mem (c, b) = W5 m ρ c b) :=
  Pipeline.θ_run_regions_kit_sems (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]
      · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hbufs, Hreg, Howed⟩
      isplitl [Hbufs Hreg]
      · isplitl [Hbufs]
        · iexact Hbufs
        iexact Hreg
      iexact Howed⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howed, -, Hreg, -⟩, -⟩
      imodintro
      isplitl [Hbufs]
      · iexact Hbufs
      isplitl [Hreg]
      · iexists _; iexact Hreg
      iexists ∅; iexact Howed)
    (QY := fun c s => ∀ b ∈ Pipeline.ucRefs τ sig, s.mem (((c : Thread nD τ)).1, b) = W5 m ρ c b)
    (hfin := fun c s' => by
      iintro ⟨⟨Hbufs, -⟩, Hstate⟩
      unfold StableHlo.held
      imodintro
      iapply (pointsTo_read_all (Pipeline.ucRefs τ sig) (fun b => (((c : Thread nD τ)).1, b)) (W5 m ρ c) s')
      isplitl [Hbufs] <;> iassumption)
    (hQ := fun s h _ => fun c b hb => h c b hb)

end Cert.Proof

end
-- ==== Proof.Spec.lean ====
/- The mathematics of the problem over the extended reals, on plain functions: a layer norm of a row, a dense layer
   behind a rectifier, and the two ways in which the two programs spell the norm. -/
module

public import Idealize.ShloMosaic.PureOps.Ideal
public import Idealize.ShloMosaic.Lib.IdealHost

@[expose] public section

noncomputable section

namespace Cert.Proof

open Idealize.ShloMosaic
open scoped BigOperators

/-- The mean of a row whose length is the extended real `c`. -/
def rowMean {n : ℕ} (c : EReal) (x : Fin n → EReal) : EReal := Ideal.div (∑ k, x k) c

/-- The mean square deviation of a row. -/
def rowVar {n : ℕ} (c : EReal) (x : Fin n → EReal) : EReal :=
  rowMean c fun k => (x k - rowMean c x) * (x k - rowMean c x)

/-- The small constant added to the variance. -/
def epsW : EReal := Ideal.ofBits .f32 0x358637BD#32

/-- A row normalised, by the reciprocal root. -/
def rowNorm {n : ℕ} (c : EReal) (x s b : Fin n → EReal) (k : Fin n) : EReal :=
  (x k - rowMean c x) * Ideal.rsqrt (rowVar c x + epsW) * s k + b k

/-- A dense layer behind a rectifier. -/
def denseRelu {n p : ℕ} (x : Fin n → EReal) (w : Fin n → Fin p → EReal) (b : Fin p → EReal) (g : Fin p) : EReal :=
  ∑ k, max (x k) 0 * w k g + b g

/-- A square of an extended real is not negative. -/
theorem square_nonneg (x : EReal) : 0 ≤ x * x := by
  rcases le_total 0 x with h | h
  · exact mul_nonneg h h
  · rw [← neg_mul_neg]
    exact mul_nonneg (EReal.neg_nonneg.mpr h) (EReal.neg_nonneg.mpr h)

/-- A quotient by a positive number of something not negative is not negative. -/
theorem div_nonneg_of {x c : EReal} (hx : 0 ≤ x) (hc : 0 < c) : 0 ≤ Ideal.div x c := by
  unfold Ideal.div
  rw [if_neg hc.ne']
  exact mul_nonneg hx (EReal.inv_nonneg_of_nonneg hc.le)

/-- The variance is not negative. -/
theorem rowVar_nonneg {n : ℕ} {c : EReal} (hc : 0 < c) (x : Fin n → EReal) : 0 ≤ rowVar c x :=
  div_nonneg_of (Finset.sum_nonneg fun _ _ => square_nonneg _) hc

/-- The small constant is positive. -/
theorem epsW_pos : 0 < epsW := by
  have h : epsW = ((8796093 * (2 : ℝ) ^ (-43 : ℤ) : ℝ) : EReal) := by
    have h1 : BitVec.extractLsb' 31 1 0x358637BD#32 = 0#1 := by decide
    have h2 : BitVec.extractLsb' 23 8 0x358637BD#32 = 107#8 := by decide
    have h3 : BitVec.extractLsb' 0 23 0x358637BD#32 = 407485#23 := by decide
    simp [epsW, Ideal.ofBits, Ideal.ieee, h1, h2, h3]
  rw [h]
  exact_mod_cast by positivity

/-- The word of 128 is positive. -/
theorem pos_128 : 0 < Ideal.ofBits .f32 0x43000000#32 := by
  have h : Ideal.ofBits .f32 0x43000000#32 = ((128 : ℝ) : EReal) := by
    simp [Ideal.ofBits, Ideal.ieee, -EReal.coe_mul]; norm_num
  rw [h]
  exact_mod_cast by norm_num

/-- The word of 64 is positive. -/
theorem pos_64 : 0 < Ideal.ofBits .f32 0x42800000#32 := by
  have h : Ideal.ofBits .f32 0x42800000#32 = ((64 : ℝ) : EReal) := by
    simp [Ideal.ofBits, Ideal.ieee, -EReal.coe_mul]; norm_num
  rw [h]
  exact_mod_cast by norm_num

/-- The word of 32 is positive. -/
theorem pos_32 : 0 < Ideal.ofBits .f32 0x42000000#32 := by
  have h : Ideal.ofBits .f32 0x42000000#32 = ((32 : ℝ) : EReal) := by
    simp [Ideal.ofBits, Ideal.ieee, -EReal.coe_mul]; norm_num
  rw [h]
  exact_mod_cast by norm_num

/-- The root of a positive real. -/
theorem sqrt_pos_real {r : ℝ} (hr : 0 < r) : Ideal.sqrt (r : EReal) = ((Real.sqrt r : ℝ) : EReal) :=
  if_neg hr.not_gt

/-- The reciprocal root of a positive real. -/
theorem rsqrt_pos_real {r : ℝ} (hr : 0 < r) : Ideal.rsqrt (r : EReal) = (((Real.sqrt r)⁻¹ : ℝ) : EReal) :=
  (if_neg hr.not_gt).trans (if_neg hr.ne')

/-- Dividing by the root of a positive number is multiplying by the reciprocal root. -/
theorem div_sqrt (x : EReal) {w : EReal} (hw : 0 < w) : Ideal.div x (Ideal.sqrt w) = x * Ideal.rsqrt w := by
  induction w with
  | bot => exact absurd hw (by simp)
  | top =>
    have h1 : Ideal.sqrt ⊤ = ⊤ := rfl
    have h2 : Ideal.rsqrt ⊤ = 0 := rfl
    rw [h1, h2, Ideal.div, if_neg (by simp), EReal.inv_top]
  | coe r =>
    have hr : 0 < r := by exact_mod_cast hw
    have h0 : ((Real.sqrt r : ℝ) : EReal) ≠ 0 := by exact_mod_cast (Real.sqrt_pos.mpr hr).ne'
    rw [sqrt_pos_real hr, rsqrt_pos_real hr, Ideal.div, if_neg h0, EReal.coe_inv]

/-- A row normalised by a quotient by the root is the row normalised by the reciprocal root. -/
theorem rowNorm_sqrt {n : ℕ} {c : EReal} (hc : 0 < c) (x s b : Fin n → EReal) (k : Fin n) :
    Ideal.div (x k - rowMean c x) (Ideal.sqrt (rowVar c x + epsW)) * s k + b k = rowNorm c x s b k := by
  rw [rowNorm, div_sqrt _ (lt_of_lt_of_le epsW_pos (le_add_of_nonneg_left (rowVar_nonneg hc x)))]

end Cert.Proof

end
-- ==== Proof.Net.lean ====
/- The problem's mathematics in plain words, for both programs to be compared with: every unit goes through three dense
   layers, an absent unit sends zero, each cell of the 256x256 grid sums what its units send, the grid is normalised and
   rectified, and a 3x3 convolution runs over it, the grid surrounded by one ring of zeros. -/
module

public import proofs.«01_k».proof.Proof.Spec

@[expose] public section

noncomputable section

namespace Cert.Proof

open Idealize.ShloMosaic

/-- The three layers of one unit's row. -/
def mlpRow (x : Fin 128 → EReal) (s0 b0 : Fin 128 → EReal) (w0 : Fin 128 → Fin 128 → EReal) (d0 : Fin 128 → EReal)
    (s1 b1 : Fin 128 → EReal) (w1 : Fin 128 → Fin 64 → EReal) (d1 : Fin 64 → EReal)
    (s2 b2 : Fin 64 → EReal) (w2 : Fin 64 → Fin 32 → EReal) (d2 : Fin 32 → EReal) : Fin 32 → EReal :=
  denseRelu (rowNorm (Ideal.ofBits .f32 0x42800000#32)
    (denseRelu (rowNorm (Ideal.ofBits .f32 0x43000000#32)
      (denseRelu (rowNorm (Ideal.ofBits .f32 0x43000000#32) x s0 b0) w0 d0) s1 b1) w1 d1) s2 b2) w2 d2

/-- Inside the grid, in the padded grid's coordinates. -/
abbrev Inside (Y X : ℕ) : Prop := 1 ≤ Y ∧ Y ≤ 256 ∧ 1 ≤ X ∧ X ≤ 256

/-- The arguments, read by coordinates. -/
structure Net where
  z : Fin 8192 → Fin 128 → EReal
  ux : Fin 8192 → BitVec 32
  uy : Fin 8192 → BitVec 32
  ne : Fin 8192 → BitVec 1
  s0 : Fin 128 → EReal
  b0 : Fin 128 → EReal
  w0 : Fin 128 → Fin 128 → EReal
  d0 : Fin 128 → EReal
  s1 : Fin 128 → EReal
  b1 : Fin 128 → EReal
  w1 : Fin 128 → Fin 64 → EReal
  d1 : Fin 64 → EReal
  s2 : Fin 64 → EReal
  b2 : Fin 64 → EReal
  w2 : Fin 64 → Fin 32 → EReal
  d2 : Fin 32 → EReal
  sf : Fin 32 → EReal
  bf : Fin 32 → EReal
  cw : Fin 3 → Fin 3 → Fin 32 → Fin 32 → EReal
  cb : Fin 32 → EReal

namespace Net

variable (n : Net)

/-- What unit `u` sends: its three layers, or zero where it is absent. -/
def sent (u : Fin 8192) (k : Fin 32) : EReal :=
  if n.ne u = 1#1 then mlpRow (n.z u) n.s0 n.b0 n.w0 n.d0 n.s1 n.b1 n.w1 n.d1 n.s2 n.b2 n.w2 n.d2 k else 0

/-- The cell at row `y`, column `x`: the sum over the units that lie there. -/
def cell (y x : ℕ) (k : Fin 32) : EReal :=
  ∑ u : Fin 8192, if (n.uy u).toInt = (y : ℤ) ∧ (n.ux u).toInt = (x : ℤ) then n.sent u k else 0

/-- The padded grid after normalisation: zero on the ring. -/
def act (Y X : ℕ) (k : Fin 32) : EReal :=
  if Inside Y X then max (rowNorm (Ideal.ofBits .f32 0x42000000#32) (n.cell (Y - 1) (X - 1)) n.sf n.bf k) 0 else 0

/-- One tap of the convolution, at the grid's cell `(y, x)`. -/
def tap (y x : ℕ) (kh kw : Fin 3) (g : Fin 32) : EReal :=
  ∑ k : Fin 32, n.act (y + kh.val) (x + kw.val) k * n.cw kh kw k g

/-- The result at the grid's cell `(y, x)`. -/
def out (y x : ℕ) (g : Fin 32) : EReal :=
  n.cb g + n.tap y x 0 0 g + n.tap y x 1 0 g + n.tap y x 2 0 g + n.tap y x 0 1 g + n.tap y x 1 1 g + n.tap y x 2 1 g
    + n.tap y x 0 2 g + n.tap y x 1 2 g + n.tap y x 2 2 g

end Net

end Cert.Proof

end
-- ==== Proof.KernelMlp.lean ====
/- The first kernel's block: what its body stores at row `r`, lane `g` of a block of 512 units is the three dense
   layers of the unit's row, times the unit's mask. -/
module

public import proofs.«01_k».proof.Proof.Gen.KernelIdeal.Frame
public import proofs.«01_k».proof.Proof.Net
public import Idealize.ShloMosaic.Lib.Pointwise
public import Idealize.ShloMosaic.Lib.Pipeline.ValueKit

@[expose] public section

set_option maxRecDepth 16384

noncomputable section

namespace Cert.Proof

open Idealize.ShloMosaic Cert.KernelIdeal Cert.KernelIdeal.Gen

/-- The first dense layer of a block's row. -/
theorem pay2_apply (x : Vec Ideal S512x128 .f32) (s b : Vec Ideal S1x128 .f32) (w : Vec Ideal S128x128 .f32)
    (d : Vec Ideal S1x128 .f32) (r : Fin 512) (g : Fin 128) :
    k0_pay2 x s b w d (ix2 r g) = denseRelu (rowNorm (Ideal.ofBits .f32 0x43000000#32) (fun k => x (ix2 r k))
      (fun k => s (ix2 0 k)) (fun k => b (ix2 0 k))) (fun k g => w (ix2 k g)) (fun g => d (ix2 0 g)) g := by
  pointwise [k0_pay2]
  rfl

/-- The second dense layer of a block's row. -/
theorem pay4_apply (x : Vec Ideal S512x128 .f32) (s b : Vec Ideal S1x128 .f32) (w : Vec Ideal S128x64 .f32)
    (d : Vec Ideal S1x64 .f32) (r : Fin 512) (g : Fin 64) :
    k0_pay4 x (k0_pay3 s) b w d (ix2 r g) = denseRelu (rowNorm (Ideal.ofBits .f32 0x43000000#32) (fun k => x (ix2 r k))
      (fun k => s (ix2 0 k)) (fun k => b (ix2 0 k))) (fun k g => w (ix2 k g)) (fun g => d (ix2 0 g)) g := by
  pointwise [k0_pay4, k0_pay3]
  rfl

/-- The third dense layer of a block's row, masked, from the second one's rows. -/
theorem pay1_apply (x : FVec Ideal S512x128 .f32) (s' b' : Vec Ideal S1x128 .f32) (w' : Vec Ideal S128x64 .f32)
    (d' : Vec Ideal S1x64 .f32) (s b : Vec Ideal S1x64 .f32) (w : Vec Ideal S64x32 .f32) (d : Vec Ideal S1x32 .f32)
    (ne : Vec Ideal S512x1 .f32) (r : Fin 512) (g : Fin 32) :
    k0_pay1 (k0_pay4 x (k0_pay3 s') b' w' d') (k0_pay5 s) (k0_pay6 b) (k0_pay7 x (k0_pay3 s') b' w' d') w d ne (ix2 r g)
      = denseRelu (rowNorm (Ideal.ofBits .f32 0x42800000#32) (fun k => k0_pay4 x (k0_pay3 s') b' w' d' (ix2 r k))
        (fun k => s (ix2 0 k)) (fun k => b (ix2 0 k))) (fun k g => w (ix2 k g)) (fun g => d (ix2 0 g)) g * ne (ix2 r 0) := by
  generalize hq : k0_pay4 x (k0_pay3 s') b' w' d' = q
  have h7 : k0_pay7 x (k0_pay3 s') b' w' d' = fun j => Ideal.div (∑ k : Fin 64, q (ix2 (j 0) k)) (Ideal.ofBits .f32 0x42800000#32) := by
    funext j
    unfold k0_pay7
    rw [hq]
    pointwise
  rw [h7]
  pointwise [k0_pay1, k0_pay5, k0_pay6]
  rfl

/-- What the body leaves in the output block, by row and lane. -/
theorem out0_14_apply (x0 : Vec Ideal S512x128 .f32) (x1 : Vec Ideal S512x1 .f32) (x2 x3 : Vec Ideal S1x128 .f32)
    (x4 : Vec Ideal S128x128 .f32) (x5 x6 x7 : Vec Ideal S1x128 .f32) (x8 : Vec Ideal S128x64 .f32)
    (x9 x10 x11 : Vec Ideal S1x64 .f32) (x12 : Vec Ideal S64x32 .f32) (x13 : Vec Ideal S1x32 .f32) (r : Fin 512) (g : Fin 32) :
    out0_14 x0 x1 x2 x3 x4 x5 x6 x7 x8 x9 x10 x11 x12 x13 (ix2 r g)
      = mlpRow (fun k => x0 (ix2 r k)) (fun k => x2 (ix2 0 k)) (fun k => x3 (ix2 0 k)) (fun k g => x4 (ix2 k g))
          (fun k => x5 (ix2 0 k)) (fun k => x6 (ix2 0 k)) (fun k => x7 (ix2 0 k)) (fun k g => x8 (ix2 k g))
          (fun k => x9 (ix2 0 k)) (fun k => x10 (ix2 0 k)) (fun k => x11 (ix2 0 k)) (fun k g => x12 (ix2 k g))
          (fun k => x13 (ix2 0 k)) g * x1 (ix2 r 0) := by
  unfold_out out0_14
  frame_out
  rw [pay1_apply]
  simp only [pay4_apply, pay2_apply]
  rfl

end Cert.Proof

end
-- ==== Proof.KernelUnits.lean ====
/- The first region's array: what it leaves for unit `u`, lane `g`, is the three dense layers of the unit's row,
   times the unit's mask. -/
module

public import proofs.«01_k».proof.Proof.KernelMlp
public import Idealize.ShloMosaic.Lib.StableHlo.ReadAt

@[expose] public section

set_option maxRecDepth 16384

noncomputable section

namespace Cert.Proof

open Idealize.ShloMosaic Idealize.ShloMosaic.TcCoe Cert.KernelIdeal Cert.KernelIdeal.Gen

variable (V : (c : Dev nD) → (b : Ref sig .tc) → Buf (Elt Ideal) ((c : Thread nD τ).loc b))

/-- The first region's array from the contents the region finds. -/
def unitsOf (c : Dev nD) (u : Fin 8192) (g : Fin 32) : EReal :=
  mlpRow (fun k => (V c main_arg0 : FVec Ideal S8192x128 .f32) (ix2 u k))
    (fun k => (V c main_v2 : FVec Ideal S1x128 .f32) (ix2 0 k)) (fun k => (V c main_v3 : FVec Ideal S1x128 .f32) (ix2 0 k))
    (fun k g => (V c main_arg6 : FVec Ideal S128x128 .f32) (ix2 k g)) (fun k => (V c main_v4 : FVec Ideal S1x128 .f32) (ix2 0 k))
    (fun k => (V c main_v5 : FVec Ideal S1x128 .f32) (ix2 0 k)) (fun k => (V c main_v6 : FVec Ideal S1x128 .f32) (ix2 0 k))
    (fun k g => (V c main_arg10 : FVec Ideal S128x64 .f32) (ix2 k g)) (fun k => (V c main_v7 : FVec Ideal S1x64 .f32) (ix2 0 k))
    (fun k => (V c main_v8 : FVec Ideal S1x64 .f32) (ix2 0 k)) (fun k => (V c main_v9 : FVec Ideal S1x64 .f32) (ix2 0 k))
    (fun k g => (V c main_arg14 : FVec Ideal S64x32 .f32) (ix2 k g)) (fun k => (V c main_v10 : FVec Ideal S1x32 .f32) (ix2 0 k)) g
  * (V c main_v1 : FVec Ideal S8192x1 .f32) (ix2 u 0)

/-- The first region's array by unit and lane. -/
theorem units_array (c : Dev nD) :
    (dat0 V c).arrAt 14 cfg0.N = (fun j => unitsOf V c (j 0) (j 1) : FVec Ideal S8192x32 .f32) := by
  refine (dat0 V c).arrAt_eq_of_covers 14 _ (by decide +kernel) fun t hf y => ?_
  blk_simp
  rw [after0_14]
  idx_vars y
  rw [out0_14_apply]
  unfold unitsOf
  have e0 : ∀ t, win0_0.index t = ![t.val, 0] := by decide +kernel
  have e1 : ∀ t, win0_1.index t = ![t.val, 0] := by decide +kernel
  have e14 : ∀ t, win0_14.index t = ![t.val, 0] := by decide +kernel
  have e2 : ∀ t, win0_2.index t = ![0, 0] := by decide +kernel
  have e3 : ∀ t, win0_3.index t = ![0, 0] := by decide +kernel
  have e4 : ∀ t, win0_4.index t = ![0, 0] := by decide +kernel
  have e5 : ∀ t, win0_5.index t = ![0, 0] := by decide +kernel
  have e6 : ∀ t, win0_6.index t = ![0, 0] := by decide +kernel
  have e7 : ∀ t, win0_7.index t = ![0, 0] := by decide +kernel
  have e8 : ∀ t, win0_8.index t = ![0, 0] := by decide +kernel
  have e9 : ∀ t, win0_9.index t = ![0, 0] := by decide +kernel
  have e10 : ∀ t, win0_10.index t = ![0, 0] := by decide +kernel
  have e11 : ∀ t, win0_11.index t = ![0, 0] := by decide +kernel
  have e12 : ∀ t, win0_12.index t = ![0, 0] := by decide +kernel
  have e13 : ∀ t, win0_13.index t = ![0, 0] := by decide +kernel
  have h1 : (win0_14.blk t).view.emb (ix2 y0 y1) 1 = y1 := by
    apply Fin.ext
    blk_simp [e14]
  blk_simp [iblk0]
  rw [h1]
  blk_point [iblk0, e0, e1, e2, e3, e4, e5, e6, e7, e8, e9, e10, e11, e12, e13, e14]

end Cert.Proof

end
-- ==== Proof.KernelConv.lean ====
/- The second kernel's block: from a slab of 4808 rows of the scattered grid and of the mask, the convolution's 4264
   rows.  Row `p` of the block takes the slab's rows `p + 7 + kw + 264 * kh`. -/
module

public import proofs.«01_k».proof.Proof.KernelUnits
public import Idealize.ShloMosaic.Lib.Pipeline.ReadBack

@[expose] public section

set_option maxRecDepth 16384

noncomputable section

namespace Cert.Proof

open Idealize.ShloMosaic Idealize.ShloMosaic.TcCoe Cert.KernelIdeal Cert.KernelIdeal.Gen

/-- The normalised rectified row of the slab. -/
theorem slabRow_apply (x : Vec Ideal S4808x32 .f32) (s b : Vec Ideal S1x32 .f32) (p : Fin 4808) (k : Fin 32) :
    k1_pay2 x s b (ix2 p k) = max (rowNorm (Ideal.ofBits .f32 0x42000000#32) (fun k => x (ix2 p k))
      (fun k => s (ix2 0 k)) (fun k => b (ix2 0 k)) k) 0 := by
  pointwise [k1_pay2]
  rfl

/-- One tap: a slab's masked row against the tap's weights. -/
def tap (a : FVec Ideal S4808x32 .f32) (mk : Vec Ideal S4808x1 .f32) (w : Vec Ideal S1x32x96 .f32) (r : Fin 4808) (g : Fin 96) : EReal :=
  ∑ k : Fin 32, a (ix2 r k) * mk (ix2 r 0) * w (ix3 0 k g)

/-- The block's row: the bias and nine taps. -/
theorem convRow_apply (a : FVec Ideal S4808x32 .f32) (mk : Vec Ideal S4808x1 .f32) (cb : Vec Ideal S1x32 .f32)
    (w0 w1 w2 : Vec Ideal S1x32x96 .f32) (p : Fin 4264) (g : Fin 32) :
    k1_pay1 a mk cb w0 w1 w2 (ix2 p g) = cb (ix2 0 g)
      + tap a mk w0 ⟨7 + p.val, by omega⟩ ⟨g.val, by omega⟩ + tap a mk w0 ⟨7 + (264 + p.val), by omega⟩ ⟨32 + g.val, by omega⟩
      + tap a mk w0 ⟨7 + (528 + p.val), by omega⟩ ⟨64 + g.val, by omega⟩
      + tap a mk w1 ⟨8 + p.val, by omega⟩ ⟨g.val, by omega⟩ + tap a mk w1 ⟨8 + (264 + p.val), by omega⟩ ⟨32 + g.val, by omega⟩
      + tap a mk w1 ⟨8 + (528 + p.val), by omega⟩ ⟨64 + g.val, by omega⟩
      + tap a mk w2 ⟨9 + p.val, by omega⟩ ⟨g.val, by omega⟩ + tap a mk w2 ⟨9 + (264 + p.val), by omega⟩ ⟨32 + g.val, by omega⟩
      + tap a mk w2 ⟨9 + (528 + p.val), by omega⟩ ⟨64 + g.val, by omega⟩ := by
  pointwise [k1_pay1]
  rfl

/-- A load of a whole scratch after the copy that filled it reads what was copied. -/
theorem load_whole {S : Shape} {sp : Space} (v : View sig .tc sp S .f32) (X : S.Idx → Elt Ideal .f32) {off : Fin S.rank → ℕ}
    (inb : ∀ a, off a + S.size a ≤ S.size a) (h : ∀ a, off a = 0) :
    v.readCov (Val := Elt Ideal) [⟨Rect.whole S, X⟩] (Rect.unit off S.size inb).toLoadRect = X :=
  View.readCov_cons_unit_lit' v _ inb X [] (fun _ => rfl) h

/-- Where the copied slab of the grid starts. -/
theorem slabOff (t : Fin cfg1.grid.N) : k1_off1 (grid1.coords t) = ![t.val * 4264, 0] := by
  revert t
  decide +kernel

/-- Where the copied slab of the mask starts. -/
theorem maskOff (t : Fin cfg1.grid.N) : k1_off2 (grid1.coords t) = ![t.val * 4264, 0] := by
  revert t
  decide +kernel

variable (V : (c : Dev nD) → (b : Ref sig .tc) → Buf (Elt Ideal) ((c : Thread nD τ).loc b))

/-- One tap of the convolution on the flattened padded grid: row `R` of the grid, normalised, rectified and masked,
    against column `j` of the weights for horizontal shift `kw`. -/
def flatTap (c : Dev nD) (kw : Fin 3) (R : Fin 68768) (j : Fin 96) : EReal :=
  ∑ k : Fin 32, max (rowNorm (Ideal.ofBits .f32 0x42000000#32) (fun k => (V c main_v24 : FVec Ideal S68768x32 .f32) (ix2 R k))
      (fun k => (V c main_v27 : FVec Ideal S1x32 .f32) (ix2 0 k)) (fun k => (V c main_v28 : FVec Ideal S1x32 .f32) (ix2 0 k)) k) 0
    * (V c main_cst : FVec Ideal S68768x1 .f32) (ix2 R 0) * (V c main_v26 : FVec Ideal S3x32x96 .f32) (ix3 kw k j)

/-- The convolution's bias as the region finds it. -/
def convBias (c : Dev nD) (g : Fin 32) : EReal := (V c main_v29 : FVec Ideal S1x32 .f32) (ix2 0 g)

/-- The convolution's row `P` on the flattened padded grid. -/
def convOf (c : Dev nD) (P : Fin 68224) (g : Fin 32) : EReal :=
  convBias V c g
    + flatTap V c 0 ⟨7 + P.val, by omega⟩ ⟨g.val, by omega⟩ + flatTap V c 0 ⟨7 + (264 + P.val), by omega⟩ ⟨32 + g.val, by omega⟩
    + flatTap V c 0 ⟨7 + (528 + P.val), by omega⟩ ⟨64 + g.val, by omega⟩
    + flatTap V c 1 ⟨8 + P.val, by omega⟩ ⟨g.val, by omega⟩ + flatTap V c 1 ⟨8 + (264 + P.val), by omega⟩ ⟨32 + g.val, by omega⟩
    + flatTap V c 1 ⟨8 + (528 + P.val), by omega⟩ ⟨64 + g.val, by omega⟩
    + flatTap V c 2 ⟨9 + P.val, by omega⟩ ⟨g.val, by omega⟩ + flatTap V c 2 ⟨9 + (264 + P.val), by omega⟩ ⟨32 + g.val, by omega⟩
    + flatTap V c 2 ⟨9 + (528 + P.val), by omega⟩ ⟨64 + g.val, by omega⟩

/-- A slab's tap is the flattened grid's, at the slab's place. -/
theorem tap_eq (c : Dev nD) (kw : Fin 3) (x : Vec Ideal S4808x32 .f32) (s b : Vec Ideal S1x32 .f32) (mk : Vec Ideal S4808x1 .f32)
    (w : Vec Ideal S1x32x96 .f32) (r : Fin 4808) (R : Fin 68768) (j : Fin 96)
    (hx : ∀ k, x (ix2 r k) = (V c main_v24 : FVec Ideal S68768x32 .f32) (ix2 R k))
    (hs : ∀ k, s (ix2 0 k) = (V c main_v27 : FVec Ideal S1x32 .f32) (ix2 0 k))
    (hb : ∀ k, b (ix2 0 k) = (V c main_v28 : FVec Ideal S1x32 .f32) (ix2 0 k))
    (hm : mk (ix2 r 0) = (V c main_cst : FVec Ideal S68768x1 .f32) (ix2 R 0))
    (hw : ∀ k, w (ix3 0 k j) = (V c main_v26 : FVec Ideal S3x32x96 .f32) (ix3 kw k j)) :
    tap (k1_pay2 x s b) mk w r j = flatTap V c kw R j := by
  unfold tap flatTap
  refine Finset.sum_congr rfl fun k _ => ?_
  rw [slabRow_apply, hm, hw]
  simp only [hx, hs, hb]

/-- The copied slab, by row and lane. -/
theorem slab_read (c : Dev nD) (t : Fin cfg1.grid.N) (h) (p : Fin 4808) (k : Fin 32) (R : Fin 68768) (hR : R.val = t.val * 4264 + p.val) :
    View.read (Elt Ideal) ((View.whole main_v24).slice (Rect.unit (k1_off1 (grid1.coords t)) ![4808, 32] h)) (V c main_v24) (ix2 p k)
      = (V c main_v24 : FVec Ideal S68768x32 .f32) (ix2 R k) := by
  refine congrArg (V c main_v24) ?_
  funext a
  apply Fin.ext
  have e := slabOff t
  fin_cases a
  · show k1_off1 (grid1.coords t) 0 + 1 * p.val = R.val
    rw [e, hR]
    simp
  · show k1_off1 (grid1.coords t) 1 + 1 * k.val = k.val
    rw [e]
    simp

/-- The copied mask, by row. -/
theorem maskSlab_read (c : Dev nD) (t : Fin cfg1.grid.N) (h) (p : Fin 4808) (R : Fin 68768) (hR : R.val = t.val * 4264 + p.val) :
    View.read (Elt Ideal) ((View.whole main_cst).slice (Rect.unit (k1_off2 (grid1.coords t)) ![4808, 1] h)) (V c main_cst) (ix2 p 0)
      = (V c main_cst : FVec Ideal S68768x1 .f32) (ix2 R 0) := by
  refine congrArg (V c main_cst) ?_
  funext a
  apply Fin.ext
  have e := maskOff t
  fin_cases a
  · show k1_off2 (grid1.coords t) 0 + 1 * p.val = R.val
    rw [e, hR]
    simp
  · show k1_off2 (grid1.coords t) 1 + 1 * 0 = 0
    rw [e]
    simp

/-- The block's row is the flattened grid's, from what its operands read. -/
theorem convBlock (c : Dev nD) (T : ℕ) (x : Vec Ideal S4808x32 .f32) (s b cb : Vec Ideal S1x32 .f32) (mk : Vec Ideal S4808x1 .f32)
    (w0 w1 w2 : Vec Ideal S1x32x96 .f32) (p : Fin 4264) (P : Fin 68224) (g : Fin 32) (hP : P.val = T + p.val)
    (hx : ∀ (r : Fin 4808) (R : Fin 68768), R.val = T + r.val → ∀ k, x (ix2 r k) = (V c main_v24 : FVec Ideal S68768x32 .f32) (ix2 R k))
    (hs : ∀ k, s (ix2 0 k) = (V c main_v27 : FVec Ideal S1x32 .f32) (ix2 0 k))
    (hb : ∀ k, b (ix2 0 k) = (V c main_v28 : FVec Ideal S1x32 .f32) (ix2 0 k))
    (hc : ∀ k, cb (ix2 0 k) = convBias V c k)
    (hm : ∀ (r : Fin 4808) (R : Fin 68768), R.val = T + r.val → mk (ix2 r 0) = (V c main_cst : FVec Ideal S68768x1 .f32) (ix2 R 0))
    (h0 : ∀ k j, w0 (ix3 0 k j) = (V c main_v26 : FVec Ideal S3x32x96 .f32) (ix3 0 k j))
    (h1 : ∀ k j, w1 (ix3 0 k j) = (V c main_v26 : FVec Ideal S3x32x96 .f32) (ix3 1 k j))
    (h2 : ∀ k j, w2 (ix3 0 k j) = (V c main_v26 : FVec Ideal S3x32x96 .f32) (ix3 2 k j)) :
    k1_pay1 (k1_pay2 x s b) mk cb w0 w1 w2 (ix2 p g) = convOf V c P g := by
  rw [convRow_apply, hc]
  have key : ∀ (i : Fin 3) (w : Vec Ideal S1x32x96 .f32) (r : Fin 4808) (R : Fin 68768) (j : Fin 96),
      (∀ k j, w (ix3 0 k j) = (V c main_v26 : FVec Ideal S3x32x96 .f32) (ix3 i k j)) → R.val = T + r.val →
      tap (k1_pay2 x s b) mk w r j = flatTap V c i R j :=
    fun i w r R j hw hR => tap_eq V c i x s b mk w r R j (hx r R hR) hs hb (hm r R hR) fun k => hw k j
  unfold convOf
  rw [key 0 w0 ⟨7 + p.val, by omega⟩ ⟨7 + P.val, by omega⟩ _ h0 (by simp only [hP]; omega),
    key 0 w0 ⟨7 + (264 + p.val), by omega⟩ ⟨7 + (264 + P.val), by omega⟩ _ h0 (by simp only [hP]; omega),
    key 0 w0 ⟨7 + (528 + p.val), by omega⟩ ⟨7 + (528 + P.val), by omega⟩ _ h0 (by simp only [hP]; omega),
    key 1 w1 ⟨8 + p.val, by omega⟩ ⟨8 + P.val, by omega⟩ _ h1 (by simp only [hP]; omega),
    key 1 w1 ⟨8 + (264 + p.val), by omega⟩ ⟨8 + (264 + P.val), by omega⟩ _ h1 (by simp only [hP]; omega),
    key 1 w1 ⟨8 + (528 + p.val), by omega⟩ ⟨8 + (528 + P.val), by omega⟩ _ h1 (by simp only [hP]; omega),
    key 2 w2 ⟨9 + p.val, by omega⟩ ⟨9 + P.val, by omega⟩ _ h2 (by simp only [hP]; omega),
    key 2 w2 ⟨9 + (264 + p.val), by omega⟩ ⟨9 + (264 + P.val), by omega⟩ _ h2 (by simp only [hP]; omega),
    key 2 w2 ⟨9 + (528 + p.val), by omega⟩ ⟨9 + (528 + P.val), by omega⟩ _ h2 (by simp only [hP]; omega)]

/-- The three slices of the weights the block loads. -/
theorem weight_load (W : Vec Ideal S3x32x96 .f32) (i : Fin 3) (h) (k : Fin 32) (j : Fin 96) :
    View.ld W (Rect.unit ![i.val, 0, 0] ![1, 32, 96] h) (ix3 0 k j) = W (ix3 i k j) := by
  refine congrArg W ?_
  funext a
  apply Fin.ext
  fin_cases a <;> simp

/-- The parameters' windows stay at the origin; the output's window advances with the step. -/
theorem index1_0 : ∀ t, win1_0.index t = ![0, 0] := by decide +kernel
theorem index1_1 : ∀ t, win1_1.index t = ![0, 0] := by decide +kernel
theorem index1_2 : ∀ t, win1_2.index t = ![0, 0, 0] := by decide +kernel
theorem index1_3 : ∀ t, win1_3.index t = ![0, 0] := by decide +kernel
theorem index1_4 : ∀ t, win1_4.index t = ![t.val, 0] := by decide +kernel

/-- The parameters' blocks are their arrays. -/
theorem scaleBlock (c : Dev nD) (t : Fin cfg1.N) (k : Fin 32) :
    iblk1 V c 0 t (ix2 0 k) = (V c main_v27 : FVec Ideal S1x32 .f32) (ix2 0 k) := by
  blk_ext [iblk1, index1_0]
/-- The shift's block is its array. -/
theorem shiftBlock (c : Dev nD) (t : Fin cfg1.N) (k : Fin 32) :
    iblk1 V c 1 t (ix2 0 k) = (V c main_v28 : FVec Ideal S1x32 .f32) (ix2 0 k) := by
  blk_ext [iblk1, index1_1]
/-- The weights' block is their array. -/
theorem weightBlock (c : Dev nD) (t : Fin cfg1.N) (i : Fin 3) (k : Fin 32) (j : Fin 96) :
    iblk1 V c 2 t (ix3 i k j) = (V c main_v26 : FVec Ideal S3x32x96 .f32) (ix3 i k j) := by
  blk_ext [iblk1, index1_2]
/-- The bias's block is its array. -/
theorem biasBlock (c : Dev nD) (t : Fin cfg1.N) (k : Fin 32) : iblk1 V c 3 t (ix2 0 k) = convBias V c k := by
  unfold convBias
  blk_ext [iblk1, index1_3]

/-- Where the output's block lies. -/
theorem outBlock (t : Fin cfg1.N) (p : Fin 4264) (g : Fin 32) :
    (win1_4.blk t).view.emb (ix2 p g) = (ix2 ⟨t.val * 4264 + p.val, by have : t.val < 16 := t.isLt; omega⟩ g : S68224x32.Idx) := by
  blk_ext [index1_4]

/-- What the body leaves in the output block, by row and lane. -/
theorem outsAt1_apply (c : Dev nD) (t : Fin cfg1.N) (p : Fin 4264) (g : Fin 32) :
    outsAt1 V c t (ix2 p g) = convOf V c ⟨t.val * 4264 + p.val, by have : t.val < 16 := t.isLt; omega⟩ g := by
  generalize hG : convOf V c ⟨t.val * 4264 + p.val, by have : t.val < 16 := t.isLt; omega⟩ g = G
  unfold outsAt1
  frame_open
  frame_out
  rw [load_whole (S := S4808x32) _ _ _ (by decide), load_whole (S := S4808x1) _ _ _ (by decide)]
  rw [← hG]
  refine convBlock V c (t.val * 4264) _ _ _ _ _ _ _ _ p _ g rfl ?_ ?_ ?_ ?_ ?_ ?_ ?_ ?_
  · exact fun r R hR k => slab_read V c t _ r k R hR
  · exact scaleBlock V c t
  · exact shiftBlock V c t
  · exact biasBlock V c t
  · exact fun r R hR => maskSlab_read V c t _ r R hR
  · exact fun k j => (weight_load _ 0 _ k j).trans (weightBlock V c t 0 k j)
  · exact fun k j => (weight_load _ 1 _ k j).trans (weightBlock V c t 1 k j)
  · exact fun k j => (weight_load _ 2 _ k j).trans (weightBlock V c t 2 k j)

/-- The second region's array from the contents the region finds. -/
theorem conv_array (c : Dev nD) :
    (dat1 V c).arrAt 4 cfg1.N = (fun j => convOf V c (j 0) (j 1) : FVec Ideal S68224x32 .f32) := by
  have key : ∀ G : FVec Ideal S68224x32 .f32, (∀ (t : Fin cfg1.N) (p : Fin 4264) (g : Fin 32), outsAt1 V c t (ix2 p g)
      = G (ix2 ⟨t.val * 4264 + p.val, by have : t.val < 16 := t.isLt; omega⟩ g)) → (dat1 V c).arrAt 4 cfg1.N = G := by
    intro G hG
    refine (dat1 V c).arrAt_eq_of_covers 4 _ (by decide +kernel) fun t hf y => ?_
    blk_simp
    rw [after1_4]
    idx_vars y
    exact (hG t y0 y1).trans (congrArg G (outBlock t y0 y1).symm)
  exact key _ fun t p g => outsAt1_apply V c t p g

end Cert.Proof

end
-- ==== Proof.Args.lean ====
/- The arguments' arrays read by coordinates, the same way for both programs. -/
module

public import proofs.«01_k».proof.Proof.Net
public import Idealize.ShloMosaic.Lib.Pointwise

@[expose] public section

noncomputable section

namespace Cert.Proof

open Idealize.ShloMosaic

/-- The twenty arguments, in the programs' order. -/
def netOf (a0 : FVec Ideal ⟨2, ![8192, 128]⟩ .f32) (a1 a2 : IVec ⟨1, ![8192]⟩ 32) (a3 : IVec ⟨1, ![8192]⟩ 1)
    (a4 a5 : FVec Ideal ⟨1, ![128]⟩ .f32) (a6 : FVec Ideal ⟨2, ![128, 128]⟩ .f32) (a7 a8 a9 : FVec Ideal ⟨1, ![128]⟩ .f32)
    (a10 : FVec Ideal ⟨2, ![128, 64]⟩ .f32) (a11 a12 a13 : FVec Ideal ⟨1, ![64]⟩ .f32)
    (a14 : FVec Ideal ⟨2, ![64, 32]⟩ .f32) (a15 a16 a17 : FVec Ideal ⟨1, ![32]⟩ .f32)
    (a18 : FVec Ideal ⟨4, ![3, 3, 32, 32]⟩ .f32) (a19 : FVec Ideal ⟨1, ![32]⟩ .f32) : Net where
  z u k := a0 (ix2 u k)
  ux u := a1 (ix1 u)
  uy u := a2 (ix1 u)
  ne u := a3 (ix1 u)
  s0 k := a4 (ix1 k)
  b0 k := a5 (ix1 k)
  w0 k g := a6 (ix2 k g)
  d0 k := a7 (ix1 k)
  s1 k := a8 (ix1 k)
  b1 k := a9 (ix1 k)
  w1 k g := a10 (ix2 k g)
  d1 k := a11 (ix1 k)
  s2 k := a12 (ix1 k)
  b2 k := a13 (ix1 k)
  w2 k g := a14 (ix2 k g)
  d2 k := a15 (ix1 k)
  sf k := a16 (ix1 k)
  bf k := a17 (ix1 k)
  cw kh kw k g := a18 (ix4 kh kw k g)
  cb k := a19 (ix1 k)

/-- A product with a bit read as a float keeps the value or makes it zero. -/
theorem mul_bit (A : EReal) (b : BitVec 1) : A * FloatOps.uitofp (F := Ideal) .f32 b = if b = 1#1 then A else 0 := by
  have e : b = 0#1 ∨ b = 1#1 := by revert b; decide
  rcases e with rfl | rfl
  · have : (FloatOps.uitofp (F := Ideal) .f32 0#1 : EReal) = 0 := by
      show (((0#1 : BitVec 1).toNat : ℝ) : EReal) = 0
      simp
    rw [this, mul_zero, if_neg (by decide)]
  · have : (FloatOps.uitofp (F := Ideal) .f32 1#1 : EReal) = 1 := by
      show (((1#1 : BitVec 1).toNat : ℝ) : EReal) = 1
      simp
    rw [this, mul_one, if_pos rfl]

end Cert.Proof

end
-- ==== Proof.Scatter.lean ====
/- The accumulating scatter of the units' rows into the flattened padded grid: row `R` sums the rows of the units whose
   index word is `R`. -/
module

public import proofs.«01_k».proof.KernelIdeal
public import Idealize.ShloMosaic.Lib.Pointwise
public import Idealize.ShloMosaic.Lib.Routing.OpsPair

@[expose] public section

set_option maxRecDepth 16384

noncomputable section

namespace Cert.Proof

open Idealize.ShloMosaic Cert.KernelIdeal

variable [Cert.KernelIdeal.Facts]

/-- Where lane `k'` of unit `u` lands. -/
theorem scatter_lands (idx : IVec S8192x1 32) (u : Fin 8192) (k' : Fin 32) (R : Fin 68768) (k : Fin 32) :
    scatter_S68768x32_S8192x1_S8192x32_1_0_0_1.resultIdx? (ix2 u k') idx = some (ix2 R k)
      ↔ (idx (ix2 u 0)).toInt = (R.val : ℤ) ∧ k' = k := by
  have s0 : scatter_S68768x32_S8192x1_S8192x32_1_0_0_1.start (ix2 u k') idx 0 = (idx (ix2 u 0)).toInt := by
    unfold ScatterDims.start
    rw [dif_pos (show (0 : Fin 2) ∈ scatter_S68768x32_S8192x1_S8192x32_1_0_0_1.scatterDimsToOperandDims from (by decide : (0 : Fin 2) ∈ ([0] : List (Fin 2))))]
    refine congrArg (fun i => (idx i).toInt) ?_
    funext b
    fin_cases b <;> rfl
  have s1 : scatter_S68768x32_S8192x1_S8192x32_1_0_0_1.start (ix2 u k') idx 1 = 0 := by
    unfold ScatterDims.start
    rw [dif_neg (show (1 : Fin 2) ∉ scatter_S68768x32_S8192x1_S8192x32_1_0_0_1.scatterDimsToOperandDims from (by decide : (1 : Fin 2) ∉ ([0] : List (Fin 2))))]
  have w0 : scatter_S68768x32_S8192x1_S8192x32_1_0_0_1.window (ix2 u k') 0 = 0 := by
    unfold ScatterDims.window
    rw [dif_neg (show (0 : Fin 2) ∉ scatter_S68768x32_S8192x1_S8192x32_1_0_0_1.sKept from (by decide : (0 : Fin 2) ∉ S68768x32.kept [0]))]
  have w1 : scatter_S68768x32_S8192x1_S8192x32_1_0_0_1.window (ix2 u k') 1 = k'.val := by
    unfold ScatterDims.window
    rw [dif_pos (show (1 : Fin 2) ∈ scatter_S68768x32_S8192x1_S8192x32_1_0_0_1.sKept from (by decide : (1 : Fin 2) ∈ S68768x32.kept [0]))]
    rfl
  rw [Routing.resultIdx?_eq_some]
  constructor
  · intro h
    have h0 := h 0
    have h1 := h 1
    rw [s0, w0] at h0
    rw [s1, w1] at h1
    refine ⟨by simpa using h0, Fin.ext ?_⟩
    have : (k'.val : ℤ) = (k.val : ℤ) := by simpa using h1
    omega
  · rintro ⟨h, rfl⟩ a
    fin_cases a
    · show scatter_S68768x32_S8192x1_S8192x32_1_0_0_1.start (ix2 u k') idx 0 + (scatter_S68768x32_S8192x1_S8192x32_1_0_0_1.window (ix2 u k') 0 : ℤ) = (R.val : ℤ)
      rw [s0, w0, h]
      simp
    · show scatter_S68768x32_S8192x1_S8192x32_1_0_0_1.start (ix2 u k') idx 1 + (scatter_S68768x32_S8192x1_S8192x32_1_0_0_1.window (ix2 u k') 1 : ℤ) = (k'.val : ℤ)
      rw [s1, w1]
      simp

/-- The coordinates of an index of the units' rows. -/
def unitLane : Fin 8192 × Fin 32 ≃ S8192x32.Idx where
  toFun p := ix2 p.1 p.2
  invFun j := (j 0, j 1)
  left_inv _ := rfl
  right_inv j := by
    funext a
    fin_cases a <;> rfl

/-- The scatter, read at row `R` and lane `k`. -/
theorem scatter_apply (x : FVec Ideal S68768x32 .f32) (idx : IVec S8192x1 32) (upd : FVec Ideal S8192x32 .f32) (R : Fin 68768) (k : Fin 32) :
    Host.scatterAdd scatter_S68768x32_S8192x1_S8192x32_1_0_0_1 x idx upd (ix2 R k)
      = Ideal.hostScatterAdd scatter_S68768x32_S8192x1_S8192x32_1_0_0_1 x idx upd (ix2 R k) := rfl

/-- The scatter's row: what was there and the sum of the updates sent to it. -/
theorem scatter_sum (x : S68768x32.Idx → EReal) (idx : IVec S8192x1 32) (upd : S8192x32.Idx → EReal) (R : Fin 68768) (k : Fin 32) :
    Ideal.hostScatterAdd scatter_S68768x32_S8192x1_S8192x32_1_0_0_1 x idx upd (ix2 R k)
      = x (ix2 R k) + ∑ u : Fin 8192, if (idx (ix2 u 0)).toInt = (R.val : ℤ) then upd (ix2 u k) else 0 := by
  unfold Ideal.hostScatterAdd
  refine congrArg (x (ix2 R k) + ·) ?_
  rw [Finset.sum_filter, ← unitLane.sum_comp, Fintype.sum_prod_type]
  refine Finset.sum_congr rfl fun u _ => ?_
  show (∑ k' : Fin 32, if scatter_S68768x32_S8192x1_S8192x32_1_0_0_1.resultIdx? (ix2 u k') idx = some (ix2 R k) then upd (ix2 u k') else 0) = _
  simp only [scatter_lands]
  by_cases h : (idx (ix2 u 0)).toInt = (R.val : ℤ)
  · simp [h]
  · simp [h]

end Cert.Proof

end
-- ==== Proof.KernelReads.lean ====
/- What the kernel program's host operations hand to its two kernel calls, read by coordinates from the arguments. -/
module

public import proofs.«01_k».proof.Proof.KernelConv
public import proofs.«01_k».proof.Proof.Args
public import proofs.«01_k».proof.Proof.Scatter

@[expose] public section

set_option maxRecDepth 16384

noncomputable section

namespace Cert.Proof

open Idealize.ShloMosaic Idealize.ShloMosaic.TcCoe Cert.KernelIdeal Cert.KernelIdeal.Gen

variable (m : (ℓ : Loc nD τ sig) → Buf (Elt Ideal) ℓ) (ρ : Dev nD → PrngReg) (c : Dev nD)

/-- The kernel program's arguments by coordinates. -/
def kNet : Net :=
  netOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17))
    (m ((c : Thread nD τ).loc main_arg18)) (m ((c : Thread nD τ).loc main_arg19))

/-- The first call's rows: what each unit sends. -/
theorem units_sent (u : Fin 8192) (g : Fin 32) : unitsOf (V1 m ρ) c u g = (kNet m c).sent u g := by
  have a0 : V1 m ρ c main_arg0 = m ((c : Thread nD τ).loc main_arg0) := W1_args m ρ c main_arg0 (by decide)
  have a6 : V1 m ρ c main_arg6 = m ((c : Thread nD τ).loc main_arg6) := W1_args m ρ c main_arg6 (by decide)
  have a10 : V1 m ρ c main_arg10 = m ((c : Thread nD τ).loc main_arg10) := W1_args m ρ c main_arg10 (by decide)
  have a14 : V1 m ρ c main_arg14 = m ((c : Thread nD τ).loc main_arg14) := W1_args m ρ c main_arg14 (by decide)
  have e1 : (V1 m ρ c main_v1 : FVec Ideal S8192x1 .f32) (ix2 u 0)
      = FloatOps.uitofp (F := Ideal) .f32 ((m ((c : Thread nD τ).loc main_arg3) : IVec S8192 1) (ix1 u)) := by
    unfold_abbrev_sides
    after_reads_at
    rfl
  have e2 : ∀ k, (V1 m ρ c main_v2 : FVec Ideal S1x128 .f32) (ix2 0 k) = (kNet m c).s0 k := by
    intro k
    unfold_abbrev_sides
    after_reads_at
  have e3 : ∀ k, (V1 m ρ c main_v3 : FVec Ideal S1x128 .f32) (ix2 0 k) = (kNet m c).b0 k := by
    intro k
    unfold_abbrev_sides
    after_reads_at
  have e4 : ∀ k, (V1 m ρ c main_v4 : FVec Ideal S1x128 .f32) (ix2 0 k) = (kNet m c).d0 k := by
    intro k
    unfold_abbrev_sides
    after_reads_at
  have e5 : ∀ k, (V1 m ρ c main_v5 : FVec Ideal S1x128 .f32) (ix2 0 k) = (kNet m c).s1 k := by
    intro k
    unfold_abbrev_sides
    after_reads_at
  have e6 : ∀ k, (V1 m ρ c main_v6 : FVec Ideal S1x128 .f32) (ix2 0 k) = (kNet m c).b1 k := by
    intro k
    unfold_abbrev_sides
    after_reads_at
  have e7 : ∀ k, (V1 m ρ c main_v7 : FVec Ideal S1x64 .f32) (ix2 0 k) = (kNet m c).d1 k := by
    intro k
    unfold_abbrev_sides
    after_reads_at
  have e8 : ∀ k, (V1 m ρ c main_v8 : FVec Ideal S1x64 .f32) (ix2 0 k) = (kNet m c).s2 k := by
    intro k
    unfold_abbrev_sides
    after_reads_at
  have e9 : ∀ k, (V1 m ρ c main_v9 : FVec Ideal S1x64 .f32) (ix2 0 k) = (kNet m c).b2 k := by
    intro k
    unfold_abbrev_sides
    after_reads_at
  have e10 : ∀ k, (V1 m ρ c main_v10 : FVec Ideal S1x32 .f32) (ix2 0 k) = (kNet m c).d2 k := by
    intro k
    unfold_abbrev_sides
    after_reads_at
  unfold unitsOf Net.sent
  simp only [e2, e3, e4, e5, e6, e7, e8, e9, e10]
  rw [e1, a0, a6, a10, a14]
  exact mul_bit _ _

/-- The row each unit's contribution goes to, as the program computes it. -/
def rowWord (uy ux : BitVec 32) : BitVec 32 :=
  Scalar.select (IntOp.cmpi .slt (IntOp.addi (IntOp.addi (IntOp.muli uy 264#32) ux) 537#32) 0#32)
    (IntOp.addi (IntOp.addi (IntOp.addi (IntOp.muli uy 264#32) ux) 537#32) 68768#32)
    (IntOp.addi (IntOp.addi (IntOp.muli uy 264#32) ux) 537#32)

/-- The program's row words, by unit. -/
theorem row_word (a1 a2 : IVec S8192 32) (u : Fin 8192) : (broadcastInDim S8192x1 ![0] bcast_S8192_S8192x1_0
    (select (cmpi .slt (addi (addi (muli a2 (broadcastInDim S8192 ![] bcast_S_S8192 (constantI S_ 32 264#32))) a1)
        (broadcastInDim S8192 ![] bcast_S_S8192 (constantI S_ 32 537#32))) (broadcastInDim S8192 ![] bcast_S_S8192 (constantI S_ 32 0#32)))
      (addi (addi (addi (muli a2 (broadcastInDim S8192 ![] bcast_S_S8192 (constantI S_ 32 264#32))) a1)
        (broadcastInDim S8192 ![] bcast_S_S8192 (constantI S_ 32 537#32))) (broadcastInDim S8192 ![] bcast_S_S8192 (constantI S_ 32 68768#32)))
      (addi (addi (muli a2 (broadcastInDim S8192 ![] bcast_S_S8192 (constantI S_ 32 264#32))) a1)
        (broadcastInDim S8192 ![] bcast_S_S8192 (constantI S_ 32 537#32)))) (ix2 u 0)) = rowWord (a2 (ix1 u)) (a1 (ix1 u)) := by
  pointwise
  rfl

/-- The first call's array, by unit and lane. -/
theorem v11_read (u : Fin 8192) (k : Fin 32) :
    (W2 m ρ c (Proc.tc.devRef main_v11) : FVec Ideal S8192x32 .f32) (ix2 u k) = (kNet m c).sent u k := by
  rw [← units_sent m ρ c u k]
  exact congrFun ((W2_arr m ρ c 14).trans (units_array (V1 m ρ) c)) (ix2 u k)

/-- What row `r` of the scattered grid gathers. -/
def gathered (n : Net) (r : ℕ) (k : Fin 32) : EReal :=
  ∑ u : Fin 8192, if (rowWord (n.uy u) (n.ux u)).toInt = (r : ℤ) then n.sent u k else 0

/-- The scatter starts from zeros. -/
theorem zeros_read (r : Fin 68768) (k : Fin 32) :
    broadcastInDim S68768x32 ![] bcast_S_S68768x32 (constant (F := Ideal) S_ .f32 0#32) (ix2 r k) = 0 :=
  Ideal.ofBits_zero_f32

/-- The scattered grid: each row holds what it gathers. -/
theorem v24_read (r : Fin 68768) (k : Fin 32) :
    (V3 m ρ c main_v24 : FVec Ideal S68768x32 .f32) (ix2 r k) = gathered (kNet m c) r.val k := by
  have key : ∀ (X : Fin 8192 → EReal) (w : Fin 8192 → BitVec 32) (G : EReal),
      (∀ u, (W2 m ρ c (Proc.tc.devRef main_v11) : FVec Ideal S8192x32 .f32) (ix2 u k) = X u) →
      (∀ u, rowWord ((m ((c : Thread nD τ).loc main_arg2) : IVec S8192 32) (ix1 u)) ((m ((c : Thread nD τ).loc main_arg1) : IVec S8192 32) (ix1 u)) = w u) →
      (∑ u : Fin 8192, if (w u).toInt = (r.val : ℤ) then X u else 0) = G →
      (V3 m ρ c main_v24 : FVec Ideal S68768x32 .f32) (ix2 r k) = G := by
    intro X w G hX hw hG
    unfold_abbrev_sides
    after_reads_at
    rw [scatter_apply, scatter_sum, zeros_read, zero_add, ← hG]
    refine Finset.sum_congr rfl fun u _ => ?_
    rw [row_word, W2_args m ρ c main_arg2 (by decide), W2_args m ρ c main_arg1 (by decide), ← hw u, ← hX u]
  exact key _ _ _ (fun u => v11_read m ρ c u k) (fun _ => rfl) rfl

/-- The weights by horizontal shift, with the three vertical shifts side by side. -/
theorem v26_read (kw : Fin 3) (k : Fin 32) (kh : Fin 3) (g : Fin 32) (h : 32 * kh.val + g.val < 96) :
    (V3 m ρ c main_v26 : FVec Ideal S3x32x96 .f32) (ix3 kw k ⟨32 * kh.val + g.val, h⟩) = (kNet m c).cw kh kw k g := by
  unfold_abbrev_sides
  after_reads_at
  rw [W2_args m ρ c main_arg18 (by decide)]

/-- The grid's scale. -/
theorem v27_read (k : Fin 32) : (V3 m ρ c main_v27 : FVec Ideal S1x32 .f32) (ix2 0 k) = (kNet m c).sf k := by
  unfold_abbrev_sides
  after_reads_at
  rw [W2_args m ρ c main_arg16 (by decide)]
/-- The grid's shift. -/
theorem v28_read (k : Fin 32) : (V3 m ρ c main_v28 : FVec Ideal S1x32 .f32) (ix2 0 k) = (kNet m c).bf k := by
  unfold_abbrev_sides
  after_reads_at
  rw [W2_args m ρ c main_arg17 (by decide)]
/-- The convolution's bias. -/
theorem v29_read (k : Fin 32) : (V3 m ρ c main_v29 : FVec Ideal S1x32 .f32) (ix2 0 k) = (kNet m c).cb k := by
  unfold_abbrev_sides
  after_reads_at
  rw [W2_args m ρ c main_arg19 (by decide)]
/-- The place of an entry of a column is its row. -/
theorem row_major_col (r : Fin 68768) : (S68768x1.rowMajor (ix2 r 0)).val = r.val := by
  rw [Shape.rowMajor_val_two]
  show r.val * 1 + 0 = r.val
  omega

/-- The mask's entry is the table's word. -/
theorem cst_read (r : Fin 68768) : (V3 m ρ c main_cst : FVec Ideal S68768x1 .f32) (ix2 r 0) = Ideal.ofBits .f32 (lit0t r.val) := by
  have e : V3 m ρ c main_cst = W1 m ρ c main_cst := (W3_of m ρ c main_cst (by decide)).trans (W2_of m ρ c main_cst (by decide))
  have e1 : (V1 m ρ c main_cst : FVec Ideal S68768x1 .f32) (ix2 r 0) = Ideal.ofBits .f32 (lit0t r.val) := by
    unfold_abbrev_sides
    after_reads_at
    exact congrArg (fun i : Fin 68768 => Ideal.ofBits .f32 (lit0 i)) (Fin.ext (row_major_col r))
  exact (congrFun e _).trans e1
/-- The result is cut out of the second call's flat rows. -/
theorem v33_read (y x : Fin 256) (k : Fin 32) : (W5 m ρ c main_v33 : FVec Ideal S256x256x32 .f32) (ix3 y x k)
    = convOf (V3 m ρ) c ⟨(1 + y.val) * 264 + (1 + x.val), by omega⟩ k := by
  unfold_abbrev_sides
  after_reads_at
  rw [show W4 m ρ c (Proc.devRef .tc main_v30) = (dat1 (V3 m ρ) c).arrAt 4 cfg1.N from W4_arr m ρ c 4, conv_array]
  rfl

end Cert.Proof

end
-- ==== Proof.Mask.lean ====
/- The mask constant of the convolution kernel, read by coordinates.  The program carries it as a table of 68768
   words, entry `272 + 264 * Y + X` for the padded grid's point `(Y, X)`; an entry is the float one inside the
   256x256 grid and the float zero on the ring of padding around it. -/
module

public import proofs.«01_k».proof.KernelIdeal
public import proofs.«01_k».proof.Proof.Net
public import Mathlib.Tactic.FinCases

@[expose] public section

set_option maxRecDepth 16384

noncomputable section

namespace Cert.Proof

open Cert.KernelIdeal

set_option maxHeartbeats 0 in
/-- The table's words, six rows of the padded grid at a time (the kernel evaluates one group of rows per case, so that
    no evaluation grows long). -/
theorem mask_rows (k : Fin 43) : ∀ (y : Fin 6) (X : Fin 258), lit0t (272 + 264 * (6 * k.val + y.val) + X.val)
    = if Inside (6 * k.val + y.val) X.val then 0x3F800000#32 else 0x00000000#32 := by
  fin_cases k <;> decide +kernel

/-- The table's word at the padded grid's point `(Y, X)`. -/
theorem mask_word {Y X : ℕ} (hY : Y < 258) (hX : X < 258) : lit0t (272 + 264 * Y + X)
    = if Inside Y X then 0x3F800000#32 else 0x00000000#32 := by
  have h := mask_rows ⟨Y / 6, by omega⟩ ⟨Y % 6, by omega⟩ ⟨X, hX⟩
  simp only [Nat.div_add_mod] at h
  exact h

end Cert.Proof

end
-- ==== Proof.KernelNet.lean ====
/- The kernel program's result by coordinates: the convolution over the padded grid. -/
module

public import proofs.«01_k».proof.Proof.KernelReads
public import proofs.«01_k».proof.Proof.Mask

@[expose] public section

set_option maxRecDepth 16384

noncomputable section

namespace Cert.Proof

open Idealize.ShloMosaic Idealize.ShloMosaic.TcCoe Cert.KernelIdeal Cert.KernelIdeal.Gen

/-- Every unit lies in the grid. -/
def Net.InGrid (n : Net) : Prop :=
  ∀ u, (0 ≤ (n.ux u).toInt ∧ (n.ux u).toInt < 256) ∧ 0 ≤ (n.uy u).toInt ∧ (n.uy u).toInt < 256

/-- A small nonnegative word read as a natural number. -/
theorem toNat_small {w : BitVec 32} (h0 : 0 ≤ w.toInt) (h1 : w.toInt < 256) : (w.toNat : ℤ) = w.toInt ∧ w.toNat < 256 := by
  have := BitVec.toInt_eq_toNat_cond w
  have := w.isLt
  by_cases q : 2 * w.toNat < 2 ^ 32
  · rw [if_pos q] at *
    omega
  · rw [if_neg q] at *
    omega

/-- The row word of a unit in the grid: the coordinates of its cell in the padded grid, flattened with stride 264. -/
theorem rowWord_toInt {uy ux : BitVec 32} (hx : 0 ≤ ux.toInt ∧ ux.toInt < 256) (hy : 0 ≤ uy.toInt ∧ uy.toInt < 256) :
    (rowWord uy ux).toInt = 264 * uy.toInt + ux.toInt + 537 := by
  obtain ⟨ex, lx⟩ := toNat_small hx.1 hx.2
  obtain ⟨ey, ly⟩ := toNat_small hy.1 hy.2
  have hw : (IntOp.addi (IntOp.addi (IntOp.muli uy 264#32) ux) 537#32).toNat = uy.toNat * 264 + ux.toNat + 537 := by
    show (uy * 264#32 + ux + 537#32).toNat = _
    simp only [BitVec.toNat_add, BitVec.toNat_mul, BitVec.toNat_ofNat]
    omega
  have hi : (IntOp.addi (IntOp.addi (IntOp.muli uy 264#32) ux) 537#32).toInt = 264 * uy.toInt + ux.toInt + 537 := by
    rw [BitVec.toInt_eq_toNat_cond, if_pos (by rw [hw]; omega), hw]
    push_cast
    omega
  have hs : IntOp.cmpi .slt (IntOp.addi (IntOp.addi (IntOp.muli uy 264#32) ux) 537#32) 0#32 = 0#1 := by
    have q : ¬ (IntOp.addi (IntOp.addi (IntOp.muli uy 264#32) ux) 537#32).toInt < 0 := by rw [hi]; omega
    simp [IntOp.cmpi, BitVec.slt, q]
  unfold rowWord Scalar.select
  rw [hs, if_neg (by decide), hi]

/-- A row of the scattered grid inside the grid gathers its cell. -/
theorem gathered_cell (n : Net) (hn : n.InGrid) {Y X : ℕ} (h : Inside Y X) (k : Fin 32) :
    gathered n (272 + 264 * Y + X) k = n.cell (Y - 1) (X - 1) k := by
  obtain ⟨h1, h2, h3, h4⟩ := h
  unfold gathered Net.cell
  refine Finset.sum_congr rfl fun u _ => ?_
  obtain ⟨hx, hy⟩ := hn u
  have e := rowWord_toInt hx hy
  refine if_congr ?_ rfl rfl
  rw [e]
  constructor
  · intro q
    constructor <;> omega
  · rintro ⟨q1, q2⟩
    omega

section Conv

variable (V : (c : Dev nD) → (b : Ref sig .tc) → Buf (Elt Ideal) ((c : Thread nD τ).loc b)) (c : Dev nD)

/-- A tap from the reads of its operands. -/
theorem flatTap_eq (kw : Fin 3) (R : Fin 68768) (j : Fin 96) (x s b w : Fin 32 → EReal) (mk : EReal)
    (hx : ∀ k, (V c main_v24 : FVec Ideal S68768x32 .f32) (ix2 R k) = x k)
    (hs : ∀ k, (V c main_v27 : FVec Ideal S1x32 .f32) (ix2 0 k) = s k)
    (hb : ∀ k, (V c main_v28 : FVec Ideal S1x32 .f32) (ix2 0 k) = b k)
    (hm : (V c main_cst : FVec Ideal S68768x1 .f32) (ix2 R 0) = mk)
    (hw : ∀ k, (V c main_v26 : FVec Ideal S3x32x96 .f32) (ix3 kw k j) = w k) :
    flatTap V c kw R j = ∑ k : Fin 32, max (rowNorm (Ideal.ofBits .f32 0x42000000#32) x s b k) 0 * mk * w k := by
  unfold flatTap
  simp only [hx, hs, hb, hm, hw]

/-- The convolution's row from its taps. -/
theorem convOf_eq (n : Net) (P : Fin 68224) (g : Fin 32) (y x : ℕ) (hP : P.val = (1 + y) * 264 + (1 + x))
    (hb : convBias V c g = n.cb g)
    (key : ∀ (kh kw : Fin 3) (R : Fin 68768) (j : Fin 96), R.val = 272 + 264 * (y + kh.val) + (x + kw.val) →
      j.val = 32 * kh.val + g.val → flatTap V c kw R j = n.tap y x kh kw g) :
    convOf V c P g = n.out y x g := by
  unfold convOf Net.out
  rw [hb, key 0 0 ⟨7 + P.val, by omega⟩ _ (by simp only [hP]; show _ = _ + 264 * (y + 0) + (x + 0); omega) (by simp),
    key 1 0 ⟨7 + (264 + P.val), by omega⟩ _ (by simp only [hP]; show _ = _ + 264 * (y + 1) + (x + 0); omega) (by simp),
    key 2 0 ⟨7 + (528 + P.val), by omega⟩ _ (by simp only [hP]; show _ = _ + 264 * (y + 2) + (x + 0); omega) (by simp),
    key 0 1 ⟨8 + P.val, by omega⟩ _ (by simp only [hP]; show _ = _ + 264 * (y + 0) + (x + 1); omega) (by simp),
    key 1 1 ⟨8 + (264 + P.val), by omega⟩ _ (by simp only [hP]; show _ = _ + 264 * (y + 1) + (x + 1); omega) (by simp),
    key 2 1 ⟨8 + (528 + P.val), by omega⟩ _ (by simp only [hP]; show _ = _ + 264 * (y + 2) + (x + 1); omega) (by simp),
    key 0 2 ⟨9 + P.val, by omega⟩ _ (by simp only [hP]; show _ = _ + 264 * (y + 0) + (x + 2); omega) (by simp),
    key 1 2 ⟨9 + (264 + P.val), by omega⟩ _ (by simp only [hP]; show _ = _ + 264 * (y + 1) + (x + 2); omega) (by simp),
    key 2 2 ⟨9 + (528 + P.val), by omega⟩ _ (by simp only [hP]; show _ = _ + 264 * (y + 2) + (x + 2); omega) (by simp)]

end Conv

variable (m : (ℓ : Loc nD τ sig) → Buf (Elt Ideal) ℓ) (ρ : Dev nD → PrngReg) (c : Dev nD)

/-- What a row of the flattened grid gives, masked, is the padded grid's activation. -/
theorem masked_act (n : Net) (hn : n.InGrid) (Y X : ℕ) (hY : Y < 258) (hX : X < 258) (k : Fin 32) :
    max (rowNorm (Ideal.ofBits .f32 0x42000000#32) (gathered n (272 + 264 * Y + X)) n.sf n.bf k) 0
      * Ideal.ofBits .f32 (lit0t (272 + 264 * Y + X)) = n.act Y X k := by
  rw [mask_word hY hX]
  unfold Net.act
  by_cases hI : Inside Y X
  · rw [if_pos hI, if_pos hI, Ideal.ofBits_one_f32, mul_one, show gathered n (272 + 264 * Y + X) = n.cell (Y - 1) (X - 1) from
      funext fun k => gathered_cell n hn hI k]
  · rw [if_neg hI, if_neg hI, Ideal.ofBits_zero_f32, mul_zero]

/-- One tap on the flattened grid is the padded grid's. -/
theorem flat_tap (hn : (kNet m c).InGrid) (kh kw : Fin 3) (g : Fin 32) (Y X : ℕ) (hY : Y < 258) (hX : X < 258) (R : Fin 68768)
    (hR : R.val = 272 + 264 * Y + X) (j : Fin 96) (hj : j.val = 32 * kh.val + g.val) :
    flatTap (V3 m ρ) c kw R j = ∑ k : Fin 32, (kNet m c).act Y X k * (kNet m c).cw kh kw k g := by
  obtain ⟨j, lj⟩ := j
  subst hj
  rw [flatTap_eq (V3 m ρ) c kw R _ _ _ _ _ _ (v24_read m ρ c R) (v27_read m ρ c) (v28_read m ρ c) (cst_read m ρ c R)
    (fun k => v26_read m ρ c kw k kh g lj), hR]
  exact Finset.sum_congr rfl fun k _ => congrArg (· * _) (masked_act _ hn Y X hY hX k)

/-- The kernel program's result. -/
theorem kernel_result (hn : (kNet m c).InGrid) (y x : Fin 256) (g : Fin 32) :
    (W5 m ρ c main_v33 : FVec Ideal S256x256x32 .f32) (ix3 y x g) = (kNet m c).out y.val x.val g :=
  (v33_read m ρ c y x g).trans (convOf_eq (V3 m ρ) c (kNet m c) _ g y.val x.val rfl (v29_read m ρ c g)
    fun kh kw R j hR hj => flat_tap m ρ c hn kh kw g _ _ (by omega) (by omega) R hR j hj)

end Cert.Proof

end
-- ==== Proof.RefLayers.lean ====
/- The reference's three dense layers, read by unit and lane. -/
module

public import proofs.«01_k».proof.Proof.Gen.ReferenceIdeal.Run
public import proofs.«01_k».proof.Proof.Args
public import Idealize.ShloMosaic.Lib.StableHlo.ReadAt

@[expose] public section

set_option maxRecDepth 16384

noncomputable section

namespace Cert.Proof

open Idealize.ShloMosaic Idealize.ShloMosaic.TcCoe Cert.ReferenceIdeal Cert.ReferenceIdeal.Value

/-- The word zero read as a float. -/
theorem sitofp_zero : (FloatOps.sitofp (F := Ideal) .f32 0#32 : EReal) = 0 := by
  show (((0#32 : BitVec 32).toInt : ℝ) : EReal) = 0
  simp

/-- The reference's variance is guarded by the test that the row's length, less zero degrees of freedom, is positive; the
    guard always passes, so its normalised row is the plain one. -/
theorem guarded_norm {n : ℕ} {c : EReal} (hc : 0 < c) (x s b : Fin n → EReal) (N : EReal) (k : Fin n) :
    Ideal.div (x k - Ideal.div (∑ j, x j) c) (Ideal.sqrt ((if 0 < c - FloatOps.sitofp (F := Ideal) .f32 0#32 then
        Ideal.div (∑ j, (x j - Ideal.div (∑ j, x j) c) * (x j - Ideal.div (∑ j, x j) c)) (c - FloatOps.sitofp (F := Ideal) .f32 0#32)
        else N) + Ideal.ofBits .f32 0x358637BD#32)) * s k + b k = rowNorm c x s b k := by
  rw [sitofp_zero, sub_zero, if_pos hc]
  exact rowNorm_sqrt hc x s b k

/-- A dense layer behind the guarded normalisation. -/
theorem guarded_dense {n p : ℕ} {c : EReal} (hc : 0 < c) (x s b : Fin n → EReal) (w : Fin n → Fin p → EReal) (d : Fin p → EReal)
    (N : EReal) (g : Fin p) :
    (∑ k, max (Ideal.div (x k - Ideal.div (∑ j, x j) c) (Ideal.sqrt ((if 0 < c - FloatOps.sitofp (F := Ideal) .f32 0#32 then
        Ideal.div (∑ j, (x j - Ideal.div (∑ j, x j) c) * (x j - Ideal.div (∑ j, x j) c)) (c - FloatOps.sitofp (F := Ideal) .f32 0#32)
        else N) + Ideal.ofBits .f32 0x358637BD#32)) * s k + b k) 0 * w k g) + d g = denseRelu (rowNorm c x s b) w d g := by
  simp only [guarded_norm hc x s b N]
  rfl

variable (V0 : Valuation τ sig (Elt Ideal))

/-- The reference's arguments by coordinates. -/
def rNet : Net :=
  netOf (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8))
    (V0 (Proc.devRef .tc main_arg9)) (V0 (Proc.devRef .tc main_arg10)) (V0 (Proc.devRef .tc main_arg11))
    (V0 (Proc.devRef .tc main_arg12)) (V0 (Proc.devRef .tc main_arg13)) (V0 (Proc.devRef .tc main_arg14))
    (V0 (Proc.devRef .tc main_arg15)) (V0 (Proc.devRef .tc main_arg16)) (V0 (Proc.devRef .tc main_arg17))
    (V0 (Proc.devRef .tc main_arg18)) (V0 (Proc.devRef .tc main_arg19))

/-- The first layer. -/
theorem ref_dense0 (u : Fin 8192) (g : Fin 128) (G : EReal)
    (hG : denseRelu (rowNorm (Ideal.ofBits .f32 0x43000000#32) ((rNet V0).z u) (rNet V0).s0 (rNet V0).b0) (rNet V0).w0 (rNet V0).d0 g = G) :
    (res_main_v23 V0 : FVec Ideal S8192x128 .f32) (ix2 u g) = G := by
  unfold res_main_v23 res_main_call0_v5 res_main_call0_v8
  clean_types
  pointwise
  rw [← hG]
  exact guarded_dense pos_128 ((rNet V0).z u) (rNet V0).s0 (rNet V0).b0 (rNet V0).w0 (rNet V0).d0 _ g

/-- The second layer, from the first. -/
theorem ref_dense1 (u : Fin 8192) (g : Fin 64) (G : EReal) (x : Fin 128 → EReal)
    (hx : ∀ k, (res_main_v23 V0 : FVec Ideal S8192x128 .f32) (ix2 u k) = x k)
    (hG : denseRelu (rowNorm (Ideal.ofBits .f32 0x43000000#32) x (rNet V0).s1 (rNet V0).b1) (rNet V0).w1 (rNet V0).d1 g = G) :
    (res_main_v46 V0 : FVec Ideal S8192x64 .f32) (ix2 u g) = G := by
  unfold res_main_v46 res_main_call2_v5 res_main_call2_v8
  clean_types
  pointwise
  rw [← hG]
  simp only [hx]
  exact guarded_dense pos_128 x (rNet V0).s1 (rNet V0).b1 (rNet V0).w1 (rNet V0).d1 _ g

/-- The one-hot comparison asks whether the coordinate is the column's number. -/
theorem one_hot (a : BitVec 32) (y : Fin 256) : IntOp.cmpi .eq a (BitVec.ofNat 32 y.val) = 1#1 ↔ a.toInt = (y.val : ℤ) := by
  have hy : (BitVec.ofNat 32 y.val).toInt = (y.val : ℤ) := by
    rw [BitVec.toInt_eq_toNat_cond, BitVec.toNat_ofNat, Nat.mod_eq_of_lt (by omega), if_pos (by omega)]
  rw [← hy, BitVec.toInt_inj]
  by_cases q : a = BitVec.ofNat 32 y.val
  · simp [IntOp.cmpi, q]
  · have qb : (a == BitVec.ofNat 32 y.val) = false := by simpa using q
    simp only [IntOp.cmpi, qb, q, iff_false]
    decide

/-- One unit's contribution to the grid's cell: the two one-hot factors keep it or make it zero. -/
theorem one_hot_term (a b : BitVec 32) (y x : Fin 256) (ne : BitVec 1) (A : EReal) :
    FloatOps.uitofp (F := Ideal) .f32 (IntOp.cmpi .eq a (BitVec.ofNat 32 y.val))
        * Scalar.select ne A (FloatOps.sitofp (F := Ideal) .f32 0#32)
        * FloatOps.uitofp (F := Ideal) .f32 (IntOp.cmpi .eq b (BitVec.ofNat 32 x.val))
      = if a.toInt = (y.val : ℤ) ∧ b.toInt = (x.val : ℤ) then (if ne = 1#1 then A else 0) else 0 := by
  rw [mul_bit, EReal.mul_comm, mul_bit, sitofp_zero]
  by_cases p : a.toInt = (y.val : ℤ) <;> by_cases q : b.toInt = (x.val : ℤ) <;> simp [one_hot, p, q, Scalar.select]

/-- The reference's grid, from the second layer. -/
theorem ref_grid (y x : Fin 256) (k : Fin 32) (G : EReal) (h : Fin 8192 → Fin 64 → EReal)
    (hh : ∀ u k, (res_main_v46 V0 : FVec Ideal S8192x64 .f32) (ix2 u k) = h u k)
    (hG : (∑ u : Fin 8192, if ((rNet V0).uy u).toInt = (y.val : ℤ) ∧ ((rNet V0).ux u).toInt = (x.val : ℤ) then
      (if (rNet V0).ne u = 1#1 then denseRelu (rowNorm (Ideal.ofBits .f32 0x42800000#32) (h u) (rNet V0).s2 (rNet V0).b2) (rNet V0).w2 (rNet V0).d2 k
        else 0) else 0) = G) :
    (res_main_v79 V0 : FVec Ideal S256x256x32 .f32) (ix3 y x k) = G := by
  unfold res_main_v79 res_main_call4_v5 res_main_call4_v8
  clean_types
  pointwise
  rw [← hG]
  simp only [hh]
  refine Finset.sum_congr rfl fun u _ => ?_
  rw [one_hot_term]
  refine if_congr Iff.rfl (if_congr Iff.rfl ?_ rfl) rfl
  exact (guarded_dense pos_64 (h u) (rNet V0).s2 (rNet V0).b2 (rNet V0).w2 (rNet V0).d2 _ k)

/-- The reference's grid is the cells. -/
theorem ref_cell (y x : Fin 256) (k : Fin 32) :
    (res_main_v79 V0 : FVec Ideal S256x256x32 .f32) (ix3 y x k) = (rNet V0).cell y.val x.val k :=
  ref_grid V0 y x k _ _ (fun u k => ref_dense1 V0 u k _ _ (fun k => ref_dense0 V0 u k _ rfl) rfl) rfl

/-- The reference's padded grid, from its grid: inside, the normalised rectified cell. -/
theorem ref_pad (Y X : Fin 258) (k : Fin 32) (G : EReal) (cells : ℕ → ℕ → Fin 32 → EReal) (s b : Fin 32 → EReal)
    (hs : ∀ k, (V0 (Proc.devRef .tc main_arg16) : FVec Ideal S32 .f32) (ix1 k) = s k)
    (hb : ∀ k, (V0 (Proc.devRef .tc main_arg17) : FVec Ideal S32 .f32) (ix1 k) = b k)
    (hc : ∀ (y x : Fin 256) k, (res_main_v79 V0 : FVec Ideal S256x256x32 .f32) (ix3 y x k) = cells y.val x.val k)
    (hin : Inside Y.val X.val → max (rowNorm (Ideal.ofBits .f32 0x42000000#32) (cells (Y.val - 1) (X.val - 1)) s b k) 0 = G)
    (hout : ¬ Inside Y.val X.val → 0 = G) :
    (res_main_v99 V0 : FVec Ideal S258x258x32 .f32) (ix3 Y X k) = G := by
  unfold res_main_v99 res_main_call9_v5 res_main_call9_v8
  clean_types
  pointwise
  split
  next h =>
    rw [← hin ⟨h.1.1, by omega, h.2.1, by omega⟩]
    simp only [hc, hs, hb]
    rw [guarded_norm pos_32 (cells (Y.val - 1) (X.val - 1)) s b]
  next h =>
    rw [← hout fun q => h ⟨⟨q.1, by have := q.2.1; omega⟩, q.2.2.1, by have := q.2.2.2; omega⟩]
    exact sitofp_zero

/-- The reference's padded grid is the activations. -/
theorem ref_act (Y X : Fin 258) (k : Fin 32) :
    (res_main_v99 V0 : FVec Ideal S258x258x32 .f32) (ix3 Y X k) = (rNet V0).act Y.val X.val k :=
  ref_pad V0 Y X k _ (rNet V0).cell (rNet V0).sf (rNet V0).bf (fun _ => rfl) (fun _ => rfl) (ref_cell V0)
    (fun h => (if_pos h).symm) (fun h => (if_neg h).symm)

/-- The reference's result, from its padded grid: the same nine taps in the order of the rows, and the bias last. -/
theorem ref_conv (y x : Fin 256) (g : Fin 32) (act : ℕ → ℕ → Fin 32 → EReal) (w : Fin 3 → Fin 3 → Fin 32 → Fin 32 → EReal)
    (b : Fin 32 → EReal)
    (ha : ∀ (Y X : Fin 258) k, (res_main_v99 V0 : FVec Ideal S258x258x32 .f32) (ix3 Y X k) = act Y.val X.val k)
    (hw : ∀ kh kw k g, (V0 (Proc.devRef .tc main_arg18) : FVec Ideal S3x3x32x32 .f32) (ix4 kh kw k g) = w kh kw k g)
    (hb : ∀ g, (V0 (Proc.devRef .tc main_arg19) : FVec Ideal S32 .f32) (ix1 g) = b g) (t : Fin 3 → Fin 3 → EReal)
    (ht : ∀ kh kw : Fin 3, (∑ k : Fin 32, act (kh.val + y.val) (kw.val + x.val) k * w kh kw k g) = t kh kw) :
    (val3 V0 (Proc.devRef .tc main_v148) : FVec Ideal S256x256x32 .f32) (ix3 y x g)
      = t 0 0 + t 0 1 + t 0 2 + t 1 0 + t 1 1 + t 1 2 + t 2 0 + t 2 1 + t 2 2 + b g := by
  rw [val3_main_v148]
  clean_types
  pointwise
  simp only [ha, hw, hb]
  simp only [← ht]
  simp

/-- The reference's result. -/
theorem ref_result (y x : Fin 256) (g : Fin 32) :
    (val3 V0 (Proc.devRef .tc main_v148) : FVec Ideal S256x256x32 .f32) (ix3 y x g) = (rNet V0).out y.val x.val g := by
  rw [ref_conv V0 y x g (rNet V0).act (rNet V0).cw (rNet V0).cb (ref_act V0) (fun _ _ _ _ => rfl) (fun _ => rfl)
    (fun kh kw => (rNet V0).tap y.val x.val kh kw g) (fun kh kw => by rw [Net.tap, Nat.add_comm y.val, Nat.add_comm x.val])]
  unfold Net.out
  ac_rfl

end Cert.Proof

end
-- ==== Proof.InGrid.lean ====
/- The precondition, unit by unit: the two coordinates lie in the grid. -/
module

public import proofs.«01_k».proof.Defs
public import Idealize.ShloMosaic.Lib.Pointwise
public import Idealize.ShloMosaic.Lib.WordCmp

@[expose] public section

set_option maxRecDepth 16384

noncomputable section

namespace Cert.Proof

open Idealize.ShloMosaic

/-- A conjunction of bits that is one has every bit one. -/
theorem fold_andi {ι : Type} (s : Finset ι) (p : ι → BitVec 1) (h : Finset.fold IntOp.andi 1#1 p s = 1#1) :
    ∀ i ∈ s, p i = 1#1 := by
  classical
  induction s using Finset.induction_on with
  | empty => intro i hi; cases hi
  | insert a s ha ih =>
    rw [Finset.fold_insert ha] at h
    have e : ∀ x y : BitVec 1, IntOp.andi x y = 1#1 → x = 1#1 ∧ y = 1#1 := by decide
    obtain ⟨h1, h2⟩ := e _ _ h
    intro i hi
    rcases Finset.mem_insert.1 hi with rfl | hi
    · exact h1
    · exact ih h2 i hi

/-- A word that passes the signed comparison with zero is not negative. -/
theorem sge_zero {w : BitVec 32} (h : IntOp.cmpi .sge w 0#32 = 1#1) : 0 ≤ w.toInt := by
  by_contra q
  have : w.toInt < 0 := by omega
  simp [IntOp.cmpi, BitVec.sle, q] at h

/-- A word that passes the signed comparison with 256 lies below it. -/
theorem slt_256 {w : BitVec 32} (h : IntOp.cmpi .slt w 256#32 = 1#1) : w.toInt < 256 := by
  by_contra q
  simp [IntOp.cmpi, BitVec.slt, q] at h

/-- The precondition at one unit: both coordinates lie in the grid. -/
theorem in_grid_unit [Cert.Pre_in_grid.Facts] (x0 : FVec Ideal Cert.Pre_in_grid.S8192x128 .f32) (ux uy : IVec Cert.Pre_in_grid.S8192 32) (ne) (x4 x5 x6 x7 x8 x9 x10 x11 x12 x13 x14 x15 x16 x17 x18 x19)
    (h : Cert.Pre_in_grid.fn (F := Ideal) x0 ux uy ne x4 x5 x6 x7 x8 x9 x10 x11 x12 x13 x14 x15 x16 x17 x18 x19 ix0 = 1#1) (u : Fin 8192) :
    (0 ≤ (ux (ix1 u)).toInt ∧ (ux (ix1 u)).toInt < 256) ∧ 0 ≤ (uy (ix1 u)).toInt ∧ (uy (ix1 u)).toInt < 256 := by
  revert h
  pointwise [Cert.Pre_in_grid.fn]
  intro h
  have e : ∀ x y : BitVec 1, IntOp.andi x y = 1#1 → x = 1#1 ∧ y = 1#1 := by decide
  obtain ⟨h1, h4⟩ := e _ _ (fold_andi _ _ h u (Finset.mem_univ u))
  obtain ⟨h1, h3⟩ := e _ _ h1
  obtain ⟨h1, h2⟩ := e _ _ h1
  exact ⟨⟨sge_zero h1, slt_256 h2⟩, sge_zero h3, slt_256 h4⟩

end Cert.Proof

end
-- ==== Proof.Value.lean ====
/- The value claim: on units that lie in the grid, the two programs end with the same result. -/
module

public import proofs.«01_k».proof.Defs
public import proofs.«01_k».proof.Proof.Run
public import proofs.«01_k».proof.Proof.KernelNet
public import proofs.«01_k».proof.Proof.RefLayers
public import proofs.«01_k».proof.Proof.InGrid
public import proofs.«01_k».proof.Proof.Gen.Pre_in_grid
public import Idealize.ShloMosaic.Lib.Claim

@[expose] public section

set_option maxRecDepth 16384

noncomputable section

namespace Cert.Proof

open Idealize.ShloMosaic Idealize.ShloMosaic.TcCoe Idealize.ShloMosaic.StableHlo

/-- The result as an array. -/
def outArr (n : Net) : FVec Ideal ⟨3, ![256, 256, 32]⟩ .f32 := fun i => n.out (i 0).val (i 1).val (i 2)

/-- An array over the result's shape is the result when it is at every triple of coordinates. -/
theorem result_ext (f : FVec Ideal ⟨3, ![256, 256, 32]⟩ .f32) (n : Net)
    (h : ∀ (y x : Fin 256) (g : Fin 32), f (ix3 y x g) = n.out y.val x.val g) :
    f = outArr n := by
  funext i
  idx_vars i
  exact h i0 i1 i2

/-- The value claim. -/
theorem algebraic : Cert.algebraic_KernelIdeal_ReferenceIdeal_pre_in_grid := by
  intro m g m' g' hpre hagree
  refine ⟨fun c => outArr (kNet m c), ?_, ?_⟩
  · refine θ_run_mono (θ_run_and (kernel_run m g) (Cert.KernelIdeal.Gen.frame m g)) fun r h c => ⟨?_, h.2.1 c⟩
    refine (h.1 c _ (Cert.KernelIdeal.Gen.mem_uc Cert.KernelIdeal.main_v33 (by decide))).trans ?_
    exact result_ext _ (kNet m c) (kernel_result m g c fun u =>
      in_grid_unit _ _ _ _ _ _ _ _ _ _ _ _ _ _ _ _ _ _ _ _ (congrFun (hpre c) ix0) u)
  · refine θ_run_mono (Cert.ReferenceIdeal.Value.run m' g') fun r h c => ⟨?_, (h c).2⟩
    refine ((h c).1.trans (Cert.ReferenceIdeal.Value.val3_main_v148 (launchContents m' c)).symm).trans ?_
    have e : rNet (launchContents m' c) = kNet m c := by
      obtain ⟨h0, h1, h2, h3, h4, h5, h6, h7, h8, h9, h10, h11, h12, h13, h14, h15, h16, h17, h18, h19⟩ := hagree c
      unfold kNet
      rw [← h0, ← h1, ← h2, ← h3, ← h4, ← h5, ← h6, ← h7, ← h8, ← h9, ← h10, ← h11, ← h12, ← h13, ← h14, ← h15, ← h16, ← h17,
        ← h18, ← h19]
      rfl
    exact (result_ext _ (rNet (launchContents m' c)) (ref_result (launchContents m' c))).trans (congrArg outArr e)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_grid
public import proofs.«01_k».proof.Proof.RefFrame
public import proofs.«01_k».proof.Proof.Value
public import Idealize.ShloMosaic.Adequacy
public import Idealize.ShloMosaic.Init

@[expose] public section

noncomputable section

namespace Cert.Proof

open Idealize.ShloMosaic Idealize.SL.Sem Cert.Kernel

/-- The frames of the three programs, from the generated runs; nothing rewritten; and the value claim. -/
theorem claim : Cert.Claim := ⟨Cert.Kernel.Gen.facts, Cert.KernelIdeal.Gen.facts, Cert.ReferenceIdeal.Gen.facts, Cert.Pre_in_grid.Gen.facts,
  fun m ρ _ => Cert.Kernel.Gen.frame m ρ, fun m ρ _ => Cert.KernelIdeal.Gen.frame m ρ, fun m ρ _ => Cert.KernelIdeal.Gen.frame m ρ,
  fun m ρ _ => (θ_run Cert.ReferenceIdeal.defs _ _).mono (fun r h => ⟨fun c => (h c).2, reference_counters r.2⟩)
    (Cert.ReferenceIdeal.Value.run m ρ),
  fun m ρ _ => (θ_run Cert.ReferenceIdeal.defs _ _).mono (fun r h => ⟨fun c => (h c).2, reference_counters r.2⟩)
    (Cert.ReferenceIdeal.Value.run m ρ), trivial, algebraic⟩

end Cert.Proof

end
